-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S1 : Shape := ⟨1, ![1]⟩
abbrev S512x8192 : Shape := ⟨2, ![512, 8192]⟩
abbrev S8x512x512 : Shape := ⟨3, ![8, 512, 512]⟩
abbrev S512x4096 : Shape := ⟨2, ![512, 4096]⟩
abbrev S5x4096x512 : Shape := ⟨3, ![5, 4096, 512]⟩
abbrev S2x512x512 : Shape := ⟨3, ![2, 512, 512]⟩
abbrev S8 : Shape := ⟨1, ![8]⟩
abbrev S7 : Shape := ⟨1, ![7]⟩
abbrev S5 : Shape := ⟨1, ![5]⟩
abbrev S2 : Shape := ⟨1, ![2]⟩
abbrev S_ : Shape := ⟨0, ![]⟩
abbrev S1x512x512 : Shape := ⟨3, ![1, 512, 512]⟩
abbrev S512x512 : Shape := ⟨2, ![512, 512]⟩
abbrev S1x4096x512 : Shape := ⟨3, ![1, 4096, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S8x512x512, .f32⟩
  | .local _ .vmem, ⟨1, _⟩ => ⟨S8x512x512, .fp8e4m3⟩
  | .local _ .vmem, ⟨2, _⟩ => ⟨S512x4096, .fp8e4m3⟩
  | .local _ .vmem, ⟨3, _⟩ => ⟨S5x4096x512, .f32⟩
  | .local _ .vmem, ⟨4, _⟩ => ⟨S2x512x512, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c0_i32
  let c8_i32_0 : BitVec 32 := 8#32
  let v4 : BitVec 32 := Scalar.remsi v3 c8_i32_0
  let c512_i32 : BitVec 32 := 512#32
  let v5 : BitVec 32 := Scalar.muli v4 c512_i32
  let c0_i32_5 : BitVec 32 := 0#32
  ![v5.toNat, 0]
def k0_dev1 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v93 : BitVec 32 := Scalar.addi v2 c1_i32_83
  let c8_i32_84 : BitVec 32 := 8#32
  let v94 : BitVec 32 := Scalar.remsi v93 c8_i32_84
  let c1_i32_86 : BitVec 32 := 1#32
  let v95 : BitVec 32 := Scalar.muli v94 c1_i32_86
  let v96 : BitVec 32 := Scalar.addi c0_i32_87 v95
  v96.toNat
def k0_dev2 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v97 : BitVec 32 := Scalar.addi v2 c2_i32_88
  let c8_i32_89 : BitVec 32 := 8#32
  let v98 : BitVec 32 := Scalar.remsi v97 c8_i32_89
  let c1_i32_91 : BitVec 32 := 1#32
  let v99 : BitVec 32 := Scalar.muli v98 c1_i32_91
  let v100 : BitVec 32 := Scalar.addi c0_i32_92 v99
  v100.toNat
def k0_dev3 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_93 : BitVec 32 := 3#32
  let v101 : BitVec 32 := Scalar.addi v2 c3_i32_93
  let c8_i32_94 : BitVec 32 := 8#32
  let v102 : BitVec 32 := Scalar.remsi v101 c8_i32_94
  let c1_i32_96 : BitVec 32 := 1#32
  let v103 : BitVec 32 := Scalar.muli v102 c1_i32_96
  let v104 : BitVec 32 := Scalar.addi c0_i32_97 v103
  v104.toNat
def k0_dev4 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_98 : BitVec 32 := 4#32
  let v105 : BitVec 32 := Scalar.addi v2 c4_i32_98
  let c8_i32_99 : BitVec 32 := 8#32
  let v106 : BitVec 32 := Scalar.remsi v105 c8_i32_99
  let c1_i32_101 : BitVec 32 := 1#32
  let v107 : BitVec 32 := Scalar.muli v106 c1_i32_101
  let v108 : BitVec 32 := Scalar.addi c0_i32_102 v107
  v108.toNat
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_103 : BitVec 32 := 5#32
  let v109 : BitVec 32 := Scalar.addi v2 c5_i32_103
  let c8_i32_104 : BitVec 32 := 8#32
  let v110 : BitVec 32 := Scalar.remsi v109 c8_i32_104
  let c1_i32_106 : BitVec 32 := 1#32
  let v111 : BitVec 32 := Scalar.muli v110 c1_i32_106
  let v112 : BitVec 32 := Scalar.addi c0_i32_107 v111
  v112.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_108 : BitVec 32 := 6#32
  let v113 : BitVec 32 := Scalar.addi v2 c6_i32_108
  let c8_i32_109 : BitVec 32 := 8#32
  let v114 : BitVec 32 := Scalar.remsi v113 c8_i32_109
  let c1_i32_111 : BitVec 32 := 1#32
  let v115 : BitVec 32 := Scalar.muli v114 c1_i32_111
  let v116 : BitVec 32 := Scalar.addi c0_i32_112 v115
  v116.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_113 : BitVec 32 := 7#32
  let v117 : BitVec 32 := Scalar.addi v2 c7_i32_113
  let c8_i32_114 : BitVec 32 := 8#32
  let v118 : BitVec 32 := Scalar.remsi v117 c8_i32_114
  let c1_i32_116 : BitVec 32 := 1#32
  let v119 : BitVec 32 := Scalar.muli v118 c1_i32_116
  let v120 : BitVec 32 := Scalar.addi c0_i32_117 v119
  v120.toNat
def k0_off2 (d0 : Dev nD) : Fin 2 → Nat :=
  let c0_127 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_126 : BitVec 32 := 512#32
  let v129 : BitVec 32 := Scalar.muli v2 c512_i32_126
  let v130 : Index := Scalar.indexCast v129
  ![0, v130.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_140 : BitVec 32 := 512#32
  let v147 : BitVec 32 := Scalar.muli v2 c512_i32_140
  ![0, v147.toNat]
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_128 : BitVec 32 := 1#32
  let v134 : BitVec 32 := Scalar.addi v2 c1_i32_128
  let c8_i32_129 : BitVec 32 := 8#32
  let v135 : BitVec 32 := Scalar.remsi v134 c8_i32_129
  let c1_i32_143 : BitVec 32 := 1#32
  let v148 : BitVec 32 := Scalar.muli v135 c1_i32_143
  let v149 : BitVec 32 := Scalar.addi c0_i32_144 v148
  v149.toNat
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_148 : BitVec 32 := 2#32
  let v157 : BitVec 32 := Scalar.addi v2 c2_i32_148
  let c8_i32_149 : BitVec 32 := 8#32
  let v158 : BitVec 32 := Scalar.remsi v157 c8_i32_149
  let c1_i32_163 : BitVec 32 := 1#32
  let v171 : BitVec 32 := Scalar.muli v158 c1_i32_163
  let v172 : BitVec 32 := Scalar.addi c0_i32_164 v171
  v172.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_168 : BitVec 32 := 3#32
  let v180 : BitVec 32 := Scalar.addi v2 c3_i32_168
  let c8_i32_169 : BitVec 32 := 8#32
  let v181 : BitVec 32 := Scalar.remsi v180 c8_i32_169
  let c1_i32_183 : BitVec 32 := 1#32
  let v194 : BitVec 32 := Scalar.muli v181 c1_i32_183
  let v195 : BitVec 32 := Scalar.addi c0_i32_184 v194
  v195.toNat
def k0_dev11 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_188 : BitVec 32 := 4#32
  let v203 : BitVec 32 := Scalar.addi v2 c4_i32_188
  let c8_i32_189 : BitVec 32 := 8#32
  let v204 : BitVec 32 := Scalar.remsi v203 c8_i32_189
  let c1_i32_203 : BitVec 32 := 1#32
  let v217 : BitVec 32 := Scalar.muli v204 c1_i32_203
  let v218 : BitVec 32 := Scalar.addi c0_i32_204 v217
  v218.toNat
def k0_dev12 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_208 : BitVec 32 := 5#32
  let v226 : BitVec 32 := Scalar.addi v2 c5_i32_208
  let c8_i32_209 : BitVec 32 := 8#32
  let v227 : BitVec 32 := Scalar.remsi v226 c8_i32_209
  let c1_i32_223 : BitVec 32 := 1#32
  let v240 : BitVec 32 := Scalar.muli v227 c1_i32_223
  let v241 : BitVec 32 := Scalar.addi c0_i32_224 v240
  v241.toNat
def k0_dev13 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_228 : BitVec 32 := 6#32
  let v249 : BitVec 32 := Scalar.addi v2 c6_i32_228
  let c8_i32_229 : BitVec 32 := 8#32
  let v250 : BitVec 32 := Scalar.remsi v249 c8_i32_229
  let c1_i32_243 : BitVec 32 := 1#32
  let v263 : BitVec 32 := Scalar.muli v250 c1_i32_243
  let v264 : BitVec 32 := Scalar.addi c0_i32_244 v263
  v264.toNat
def k0_dev14 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_248 : BitVec 32 := 7#32
  let v272 : BitVec 32 := Scalar.addi v2 c7_i32_248
  let c8_i32_249 : BitVec 32 := 8#32
  let v273 : BitVec 32 := Scalar.remsi v272 c8_i32_249
  let c1_i32_263 : BitVec 32 := 1#32
  let v286 : BitVec 32 := Scalar.muli v273 c1_i32_263
  let v287 : BitVec 32 := Scalar.addi c0_i32_264 v286
  v287.toNat
def k0_off5 (d0 : Dev nD) (c1_i32_268 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v295 : BitVec 32 := Scalar.addi v2 c1_i32_268
  let c8_i32_269 : BitVec 32 := 8#32
  let v296 : BitVec 32 := Scalar.remsi v295 c8_i32_269
  ![v296.toNat]
def k0_off6 (d0 : Dev nD) (c1_i32_268 : BitVec 32) : Fin 2 → Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v295 : BitVec 32 := Scalar.addi v2 c1_i32_268
  let c8_i32_269 : BitVec 32 := 8#32
  let v296 : BitVec 32 := Scalar.remsi v295 c8_i32_269
  let c512_i32_270 : BitVec 32 := 512#32
  let v297 : BitVec 32 := Scalar.muli v296 c512_i32_270
  ![0, v297.toNat]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Protocol.lean ====
/-
# The cross-device protocol

Eight devices exchange the row blocks of the left operand: device `c` holds columns `[512c, 512c+512)` of it and needs
the rows `[512c, 512c+512)`. It narrows each 512 × 512 block of its columns to eight bits and copies block `d` (its
rows `[512p, 512p+512)` for `p` the device `d` places after it) into column block `c` of device `p`'s assembled rows.

Who pays which semaphore, and what the payment hands over:

* the barrier semaphore of device `s` is signalled once by each other device `c`; that signal hands `s` column block
  `s` of `c`'s assembled rows (to write into), and the fact that `c`'s receive cell `s` is at its first round. `s` waits
  for seven, before its first copy.
* receive cell `k` of device `c` (`k ≠ c`) is paid by device `k`'s copy, which hands `c` the column block `k` of its
  own assembled rows, holding device `k`'s block of rows `[512c, 512c+512)`, narrowed.
* send cell `d` of device `c` (`d = 1 … 7`) is paid by `c`'s own copy to the device `d` places after it, which hands
  back the narrowed block it was read from.

A duty is named by a device number: on a barrier or receive cell the payer, on a send cell the distance. Barrier cells
sit at level 1, receive cells at level 2, everything else at level 0.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdx
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

/-! ## The resource algebra: the staging pipeline's, the exchange's rounds, the local transfers' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ) (ρ : Dev nD → PrngReg)

/-! ## Peers -/

set_option backward.proofsInPublic true in
/-- The device `d` places after `c`. -/
def peer (c d : Dev nD) : Dev nD := ⟨(c.val + d.val) % 8, Nat.mod_lt _ (by decide)⟩

set_option backward.proofsInPublic true in
/-- How many places after `c` the device `k` is. -/
def dist (c k : Dev nD) : Dev nD := ⟨(k.val + (8 - c.val)) % 8, Nat.mod_lt _ (by decide)⟩

theorem peer_dist (c k : Dev nD) : peer c (dist c k) = k := by revert c k; decide
theorem dist_peer (c d : Dev nD) : dist c (peer c d) = d := by revert c d; decide
theorem peer_ne (c d : Dev nD) (hd : d ≠ 0) : peer c d ≠ c := by revert c d; decide
theorem peer_zero (c : Dev nD) : peer c 0 = c := by revert c; decide

theorem peer_inj {c d d' : Dev nD} (h : peer c d = peer c d') : d = d' := by rw [← dist_peer c d, h, dist_peer]

/-- Where the exchange's rounds live. -/
abbrev ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb

instance : (ER (F := F)).LandsIn (upEmb : UEmb _ 𝕄) := by unfold ER; infer_instance

/-! ## Buffers and cells -/

abbrev aM : Memref sig .tc .vmem S512x4096 .fp8e4m3 := Memref.whole cc0_scratch2
abbrev qM : Memref sig .tc .vmem S8x512x512 .fp8e4m3 := Memref.whole cc0_scratch1

theorem col_inb (k : Dev nD) : ∀ a : Fin 2, (![0, 512 * k.val] : Fin 2 → ℕ) a + S512x512.size a ≤ S512x4096.size a := by
  revert k; decide
theorem slot_inb (d : Dev nD) : ∀ a : Fin 3, (![d.val, 0, 0] : Fin 3 → ℕ) a + S1x512x512.size a ≤ S8x512x512.size a := by
  revert d; decide

/-- Column block `k` of the assembled rows. -/
abbrev aCol (k : Dev nD) : Memref sig .tc .vmem S512x512 .fp8e4m3 :=
  aM.slice (Rect.unit (s := S512x4096) ![0, 512 * k.val] S512x512.size (col_inb k)) (fun _ => rfl)
/-- Slot `d` of the narrowed blocks. -/
abbrev qSlot (d : Dev nD) : Memref sig .tc .vmem S512x512 .fp8e4m3 :=
  (qM.slice (Rect.unit (s := S8x512x512) ![d.val, 0, 0] S1x512x512.size (slot_inb d)) (fun _ => rfl)).squeeze S512x512
    squeezes_S1x512x512_S512x512

abbrev barS : Sem sig := barrier0
abbrev sendS (d : Dev nD) : DmaSem sig := ⟨9 + d.val, by have := d.isLt; change d.val < 8 at this; show 9 + d.val < 32; omega⟩
abbrev recvS (k : Dev nD) : DmaSem sig := ⟨17 + k.val, by have := k.isLt; change k.val < 8 at this; show 17 + k.val < 32; omega⟩

abbrev barCell (c : Dev nD) : GSem nD τ sig := ((c : Thread nD τ), .reg barS)
abbrev sendCell (c d : Dev nD) : GSem nD τ sig := ((c : Thread nD τ), .dma (sendS d))
abbrev recvCell (c k : Dev nD) : GSem nD τ sig := ((c : Thread nD τ), .dma (recvS k))

/-- The credit of one 512 × 512 block. -/
abbrev N : ℕ := (aCol 0).view.dmaCredit
theorem N_pos : 0 < N := View.dmaCredit_pos _ (by decide)

/-! ## Contents -/

/-- Device `c`'s columns of the left operand, at launch. -/
abbrev xIn (c : Dev nD) : S4096x512.Idx → Elt F .f32 := m ((c : Thread nD τ).loc main_arg0)

/-- Narrowing one element to eight bits. -/
abbrev narrow (v : Elt F .f32) : Elt F .fp8e4m3 := FloatOps.truncf (F := F) (φ := .f32) .fp8e4m3 (by decide) v

/-- Device `c`'s assembled rows: row `i`, column `j` is column `j % 512` of device `j / 512`'s row `512c + i`. -/
def rows (c : Dev nD) : S512x4096.Idx → Elt F .fp8e4m3 := fun i =>
  narrow (xIn m (⟨(i 1).val / 512, by have := (i 1).isLt; show _ < 8; change (i 1).val < 4096 at this; omega⟩ : Dev nD)
    (ix2 ⟨512 * c.val + (i 0).val, by have h0 := (i 0).isLt; have hc := c.isLt; change (i 0).val < 512 at h0; change c.val < 8 at hc; omega⟩
      ⟨(i 1).val % 512, Nat.mod_lt _ (by decide)⟩))

/-- The narrowed blocks of device `c`: slot `d` is the block of the device `d` places after it. -/
def blocks (c : Dev nD) : S8x512x512.Idx → Elt F .fp8e4m3 := fun i =>
  narrow (xIn m c (ix2 ⟨512 * ((c.val + (i 0).val) % 8) + (i 1).val, by have := (i 1).isLt; change (i 1).val < 512 at this; omega⟩ (i 2)))

/-- Column block `k` of device `c`'s assembled rows, at contents `f`. -/
def colPts (c k : Dev nD) (f : S512x4096.Idx → Elt F .fp8e4m3) : sProp 𝕄 :=
  (aCol k).view.loc (c : Thread nD τ) ↦[(aCol k).view.set]{fullShare} f
/-- Slot `d` of device `c`'s narrowed blocks, at contents `f`. -/
def slotPts (c d : Dev nD) (f : S8x512x512.Idx → Elt F .fp8e4m3) : sProp 𝕄 :=
  (qSlot d).view.loc (c : Thread nD τ) ↦[(qSlot d).view.set]{fullShare} f

omit [FloatOps F] in
instance colPts_storable (c k : Dev nD) (f) : BI.Storable (upEmb : UEmb _ 𝕄) (colPts (F := F) c k f) := by unfold colPts; infer_instance
omit [FloatOps F] in
instance slotPts_storable (c d : Dev nD) (f) : BI.Storable (upEmb : UEmb _ 𝕄) (slotPts (F := F) c d f) := by unfold slotPts; infer_instance

/-! ## The schedule -/

/-- What device `k`'s signal hands device `s`. -/
def barPay (s k : Dev nD) : sProp 𝕄 := iprop((∃ f, colPts k s f) ∗ reached ER (recvCell k s) 0)

/-- The duties of a cell's one round. -/
def dutiesOf (g : GSem nD τ sig) : Finset (Dev nD) :=
  if g.2 = .reg barS then Finset.univ.erase g.1.1
  else Finset.univ.filter fun d => (g.2 = .dma (sendS d) ∧ d ≠ 0) ∨ (g.2 = .dma (recvS d) ∧ d ≠ g.1.1)

def payloadOf (g : GSem nD τ sig) (d : Dev nD) : sProp 𝕄 :=
  if g.2 = .reg barS then barPay g.1.1 d
  else if g.2 = .dma (recvS d) then colPts g.1.1 d (rows m g.1.1)
  else slotPts g.1.1 d (blocks m g.1.1)

def sched : Rounds.Schedule (GSem nD τ sig) (Dev nD) 𝕄 where
  duties g r := if r = 0 ∧ g.1.2 = .tc then dutiesOf g else ∅
  unitless _ := False
  amount g _ _ := if g.2 = .reg barS then 1 else N
  payload g _ d := payloadOf m g d
  amount_pos g _ _ _ := by
    by_cases h : g.2 = .reg barS
    · rw [if_pos h]; exact Nat.one_pos
    · rw [if_neg h]; exact N_pos

instance sched_payload_storable (g : GSem nD τ sig) (r : ℕ) (d : Dev nD) :
    BI.Storable (upEmb : UEmb _ 𝕄) ((sched (F := F) m).payload g r d) := by
  show BI.Storable upEmb (payloadOf m g d)
  unfold payloadOf barPay
  (repeat' split) <;> infer_instance

/-! ### Its tables -/

theorem send_ne_bar (d : Dev nD) : (SemLoc.dma (sendS d) : SemLoc sig) ≠ .reg barS := fun h => by cases h
theorem recv_ne_bar (k : Dev nD) : (SemLoc.dma (recvS k) : SemLoc sig) ≠ .reg barS := fun h => by cases h
theorem send_ne_recv (d k : Dev nD) : (SemLoc.dma (sendS d) : SemLoc sig) ≠ .dma (recvS k) := by revert d k; decide
theorem sendS_inj {d d' : Dev nD} (h : (SemLoc.dma (sendS d) : SemLoc sig) = .dma (sendS d')) : d = d' := by
  revert d d'; decide
theorem recvS_inj {d d' : Dev nD} (h : (SemLoc.dma (recvS d) : SemLoc sig) = .dma (recvS d')) : d = d' := by
  revert d d'; decide

section Tables
variable (c d k : Dev nD)

theorem duties_bar : (sched (F := F) m).duties (barCell c) 0 = Finset.univ.erase c := by
  dsimp only [sched]; rw [if_pos ⟨rfl, rfl⟩]; unfold dutiesOf; exact if_pos rfl
theorem duties_send (hd : d ≠ 0) : (sched (F := F) m).duties (sendCell c d) 0 = {d} := by
  dsimp only [sched]; rw [if_pos ⟨rfl, rfl⟩]; unfold dutiesOf; rw [if_neg (send_ne_bar d)]
  ext e
  simp only [Finset.mem_filter, Finset.mem_univ, true_and, Finset.mem_singleton]
  constructor
  · rintro (⟨h, -⟩ | ⟨h, -⟩)
    · exact (sendS_inj h).symm
    · exact absurd h (send_ne_recv d e)
  · rintro rfl; exact Or.inl ⟨rfl, hd⟩
theorem duties_recv (hk : k ≠ c) : (sched (F := F) m).duties (recvCell c k) 0 = {k} := by
  dsimp only [sched]; rw [if_pos ⟨rfl, rfl⟩]; unfold dutiesOf; rw [if_neg (recv_ne_bar k)]
  ext e
  simp only [Finset.mem_filter, Finset.mem_univ, true_and, Finset.mem_singleton]
  constructor
  · rintro (⟨h, -⟩ | ⟨h, -⟩)
    · exact absurd h.symm (send_ne_recv e k)
    · exact (recvS_inj h).symm
  · rintro rfl; exact Or.inr ⟨rfl, hk⟩
/-- A device's receive cell of its own number is paid by nobody. -/
theorem duties_self : (sched (F := F) m).duties (recvCell c c) 0 = ∅ := by
  dsimp only [sched]; rw [if_pos ⟨rfl, rfl⟩]; unfold dutiesOf; rw [if_neg (recv_ne_bar c)]
  ext e
  simp only [Finset.mem_filter, Finset.mem_univ, true_and, Finset.notMem_empty, iff_false]
  rintro (⟨h, -⟩ | ⟨h, h'⟩)
  · exact send_ne_recv e c h.symm
  · exact h' (recvS_inj h).symm
theorem duties_later (g : GSem nD τ sig) : ∀ r, 1 ≤ r → (sched (F := F) m).duties g r = ∅ :=
  fun r hr => by dsimp only [sched]; rw [if_neg fun h => by omega]

theorem amount_bar : (sched (F := F) m).amount (barCell c) 0 d = 1 := by dsimp only [sched]; exact if_pos rfl
theorem amount_send (e : Dev nD) : (sched (F := F) m).amount (sendCell c d) 0 e = N := by dsimp only [sched]; exact if_neg (send_ne_bar d)
theorem amount_recv (e : Dev nD) : (sched (F := F) m).amount (recvCell c k) 0 e = N := by dsimp only [sched]; exact if_neg (recv_ne_bar k)

theorem expect_bar : (sched (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]; rfl
theorem expect_send (hd : d ≠ 0) : (sched (F := F) m).expect (sendCell c d) 0 = N := by
  unfold Schedule.expect Schedule.amountOf; rw [duties_send m c d hd, Finset.sum_singleton, amount_send]
theorem expect_recv (hk : k ≠ c) : (sched (F := F) m).expect (recvCell c k) 0 = N := by
  unfold Schedule.expect Schedule.amountOf; rw [duties_recv m c k hk, Finset.sum_singleton, amount_recv]

theorem payload_bar : (sched (F := F) m).payload (barCell c) 0 d = barPay c d := by
  show payloadOf m (barCell c) d = _; unfold payloadOf; exact if_pos rfl
theorem payload_send : (sched (F := F) m).payload (sendCell c d) 0 d = slotPts c d (blocks m c) := by
  show payloadOf m (sendCell c d) d = _; unfold payloadOf; rw [if_neg (send_ne_bar d), if_neg (send_ne_recv d d)]
theorem payload_recv : (sched (F := F) m).payload (recvCell c k) 0 k = colPts c k (rows m c) := by
  show payloadOf m (recvCell c k) k = _; unfold payloadOf; rw [if_neg (recv_ne_bar k), if_pos rfl]

/-- The devices other than `c`, by their distance from it. -/
theorem others : (Finset.univ.erase c : Finset (Dev nD)) = ([1, 2, 3, 4, 5, 6, 7].map (peer c)).toFinset := by
  revert c; decide

theorem rest_bar : bigSep ((sched (F := F) m).duties (barCell c) 0 \ ∅) (fun d => (sched (F := F) m).payload (barCell c) 0 d)
    = iprop(barPay c (peer c 1) ∗ barPay c (peer c 2) ∗ barPay c (peer c 3) ∗ barPay c (peer c 4) ∗ barPay c (peer c 5)
        ∗ barPay c (peer c 6) ∗ barPay c (peer c 7)) := by
  rw [Finset.sdiff_empty, duties_bar, bigSep_eq_bigSepL_of_eq ([1, 2, 3, 4, 5, 6, 7].map (peer c)) (others c) (by revert c; decide)]
  simp only [List.map_cons, List.map_nil, bigSepL_cons_cons, bigSepL_singleton, payload_bar]
  rfl
theorem rest_send (hd : d ≠ 0) : bigSep ((sched (F := F) m).duties (sendCell c d) 0 \ ∅) (fun e => (sched (F := F) m).payload (sendCell c d) 0 e)
    = slotPts c d (blocks m c) := by
  rw [Finset.sdiff_empty, duties_send m c d hd, bigSep_singleton, payload_send]
theorem rest_recv (hk : k ≠ c) : bigSep ((sched (F := F) m).duties (recvCell c k) 0 \ ∅) (fun e => (sched (F := F) m).payload (recvCell c k) 0 e)
    = colPts c k (rows m c) := by
  rw [Finset.sdiff_empty, duties_recv m c k hk, bigSep_singleton, payload_recv]

end Tables

/-! ## What each device owes at launch; the levels -/

/-- What device `c` still owes the receive cells when its last `n` copies are to come (the copy to the device `8 - n`
    places after it first). -/
def owedR (c : Dev nD) : ℕ → CellTallies nD τ sig Unit
  | 0 => 0
  | n + 1 => owedR c n + tallyAt (recvCell (peer c (Fin.ofNat 8 (7 - n))) c) () N
/-- The same while its last `n` signals are to come too. -/
def owedB (c : Dev nD) : ℕ → CellTallies nD τ sig Unit
  | 0 => owedR c 7
  | n + 1 => owedB c n + tallyAt (barCell (peer c (Fin.ofNat 8 (7 - n)))) () 1

def L (g : GSem nD τ sig) : Finset Unit := if g.1.2 = .tc then {()} else ∅
def lv (g : GSem nD τ sig) (_ : Unit) : ℕ :=
  if g.2 = .reg barS then 1 else if ∃ k, g.2 = .dma (recvS k) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c k : Dev nD) (u : Unit) : lv (recvCell c k) u = 2 := by
  unfold lv; rw [if_neg (recv_ne_bar k), if_pos ⟨k, rfl⟩]

theorem owedR_pos {c : Dev nD} {n : ℕ} {g : GSem nD τ sig} {u : Unit} (h : 0 < owedR c n g u) : ∃ p, g = recvCell p c := by
  induction n with
  | zero => exact absurd h (Nat.lt_irrefl 0)
  | succ n ih =>
    unfold owedR at h
    rw [Pi.add_apply, Finsupp.add_apply, tallyAt_apply] at h
    by_cases hg : g = recvCell (peer c (Fin.ofNat 8 (7 - n))) c ∧ u = ()
    · exact ⟨_, hg.1⟩
    · rw [if_neg hg] at h; exact ih h
theorem owedB_pos {c : Dev nD} {n : ℕ} {g : GSem nD τ sig} {u : Unit} (h : 0 < owedB c n g u) :
    (∃ p, g = recvCell p c) ∨ ∃ p, g = barCell p := by
  induction n with
  | zero => exact Or.inl (owedR_pos h)
  | succ n ih =>
    unfold owedB at h
    rw [Pi.add_apply, Finsupp.add_apply, tallyAt_apply] at h
    by_cases hg : g = barCell (peer c (Fin.ofNat 8 (7 - n))) ∧ u = ()
    · exact Or.inr ⟨_, hg.1⟩
    · rw [if_neg hg] at h; exact ih h

/-- A wait on a transfer that is no receive cell's is allowed below everything a device ever owes. -/
theorem mayWait_B (c : Dev nD) (n : ℕ) (q : DmaSem sig) (hq : ∀ k, q ≠ recvS k) :
    (levAts L lv : sProp 𝕄) ⊢ MayWait (c : Thread nD τ) (.dma q) () (owedB c n) :=
  MayOwe.of_cut (L := L) (lev := lv) 0 (fun p hp => by rw [Finset.mem_singleton.mp hp, L_tc]; exact Finset.mem_singleton_self _)
    (fun g u hg => by rcases owedB_pos hg with ⟨p, rfl⟩ | ⟨p, rfl⟩ <;> exact Finset.mem_singleton_self _)
    (fun p hp => by
      rw [Finset.mem_singleton.mp hp]; unfold lv
      rw [if_neg (fun h => by cases h), if_neg (fun ⟨k, h⟩ => hq k (by cases h; rfl))])
    (fun g u hg => by
      rcases owedB_pos hg with ⟨p, rfl⟩ | ⟨p, rfl⟩
      · rw [lv_recv]; decide
      · rw [lv_bar]; decide)
theorem mayWait_R (c : Dev nD) (n : ℕ) (q : DmaSem sig) (hq : ∀ k, q ≠ recvS k) :
    (levAts L lv : sProp 𝕄) ⊢ MayWait (c : Thread nD τ) (.dma q) () (owedR c n) :=
  MayOwe.of_cut (L := L) (lev := lv) 0 (fun p hp => by rw [Finset.mem_singleton.mp hp, L_tc]; exact Finset.mem_singleton_self _)
    (fun g u hg => by rcases owedR_pos hg with ⟨p, rfl⟩; exact Finset.mem_singleton_self _)
    (fun p hp => by
      rw [Finset.mem_singleton.mp hp]; unfold lv
      rw [if_neg (fun h => by cases h), if_neg (fun ⟨k, h⟩ => hq k (by cases h; rfl))])
    (fun g u hg => by rcases owedR_pos hg with ⟨p, rfl⟩; rw [lv_recv]; decide)
/-- At its barrier wait a device owes receive cells only. -/
theorem mayWait_bar (c : Dev nD) (n : ℕ) : (levAts L lv : sProp 𝕄) ⊢ MayWait (c : Thread nD τ) (.reg barS) () (owedR c n) :=
  MayOwe.of_cut (L := L) (lev := lv) 1 (fun p hp => by rw [Finset.mem_singleton.mp hp, L_tc]; exact Finset.mem_singleton_self _)
    (fun g u hg => by rcases owedR_pos hg with ⟨p, rfl⟩; exact Finset.mem_singleton_self _)
    (fun p hp => by rw [Finset.mem_singleton.mp hp]; exact Nat.le_of_eq (lv_bar c ()))
    (fun g u hg => by rcases owedR_pos hg with ⟨p, rfl⟩; rw [lv_recv]; decide)

end Cert.Exchange
-- ==== Proof.Geometry.lean ====
/-
# Where the pieces lie

Element sets of the column blocks and of the slots, the buffers whole as the separate pieces and back, and what a landed
block holds.
-/
module

public import proofs.«01_k».proof.Proof.Protocol
public import Idealize.ShloMosaic.Lib.Ring
public import Idealize.ShloMosaic.Lib.ValueLayout

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]
local notation "𝕄" => MT nD τ sig Unit (Elt F) ℕ UU ℕ
variable (m : (ℓ : Loc nD τ sig) → Buf (Elt F) ℓ)

/-! ## The pieces of the local buffers -/

/-- Slot `n` of the landed blocks of the left operand. -/
abbrev xSlot (n : ℕ) (h : ∀ a : Fin 3, (![n, 0, 0] : Fin 3 → ℕ) a + S1x512x512.size a ≤ S8x512x512.size a) :
    Memref sig .tc .vmem S512x512 .f32 :=
  ((Memref.whole cc0_scratch0).slice (Rect.unit (s := S8x512x512) ![n, 0, 0] S1x512x512.size h) (fun _ => rfl)).squeeze S512x512
    squeezes_S1x512x512_S512x512
/-- Slot `n` of the right operand's stripes. -/
abbrev wSlot (n : ℕ) (h : ∀ a : Fin 3, (![n, 0, 0] : Fin 3 → ℕ) a + S1x4096x512.size a ≤ S5x4096x512.size a) :
    Memref sig .tc .vmem S4096x512 .f32 :=
  ((Memref.whole cc0_scratch3).slice (Rect.unit (s := S5x4096x512) ![n, 0, 0] S1x4096x512.size h) (fun _ => rfl)).squeeze S4096x512
    squeezes_S1x4096x512_S4096x512
/-- Slot `n` of the finished stripes. -/
abbrev oSlot (n : ℕ) (h : ∀ a : Fin 3, (![n, 0, 0] : Fin 3 → ℕ) a + S1x512x512.size a ≤ S2x512x512.size a) :
    Memref sig .tc .vmem S512x512 .f32 :=
  ((Memref.whole cc0_scratch4).slice (Rect.unit (s := S2x512x512) ![n, 0, 0] S1x512x512.size h) (fun _ => rfl)).squeeze S512x512
    squeezes_S1x512x512_S512x512
/-- The result's columns from `n` on. -/
abbrev oStripe (n : ℕ) (h : ∀ a : Fin 2, (![0, n] : Fin 2 → ℕ) a + S512x512.size a ≤ S512x8192.size a) :
    Memref sig .tc .hbm S512x512 .f32 :=
  (Memref.whole main_v1).slice (Rect.unit (s := S512x8192) ![0, n] S512x512.size h) (fun _ => rfl)

theorem wslot_inb (d : Fin 5) : ∀ a : Fin 3, (![d.val, 0, 0] : Fin 3 → ℕ) a + S1x4096x512.size a ≤ S5x4096x512.size a := by
  revert d; decide
theorem oslot_inb (d : Fin 2) : ∀ a : Fin 3, (![d.val, 0, 0] : Fin 3 → ℕ) a + S1x512x512.size a ≤ S2x512x512.size a := by
  revert d; decide
theorem stripe_inb (t : Fin 16) : ∀ a : Fin 2, (![0, 512 * t.val] : Fin 2 → ℕ) a + S512x512.size a ≤ S512x8192.size a := by
  revert t; decide

/-! ## Element sets -/

theorem aCol_set (k : Dev nD) : (aCol k).view.set = (Rect.unit (s := S512x4096) ![0, 512 * k.val] S512x512.size (col_inb k)).set :=
  View.set_slice_whole _ _
theorem qSlot_set (d : Dev nD) : (qSlot d).view.set = (Rect.unit (s := S8x512x512) ![d.val, 0, 0] S1x512x512.size (slot_inb d)).set :=
  (View.set_reshape (v := View.slice (View.whole _) _) _).trans (View.set_slice_whole _ _)
theorem xSlot_set (n : ℕ) (h) : (xSlot n h).view.set = (Rect.unit (s := S8x512x512) ![n, 0, 0] S1x512x512.size h).set :=
  (View.set_reshape (v := View.slice (View.whole _) _) _).trans (View.set_slice_whole _ _)
theorem wSlot_set (n : ℕ) (h) : (wSlot n h).view.set = (Rect.unit (s := S5x4096x512) ![n, 0, 0] S1x4096x512.size h).set :=
  (View.set_reshape (v := View.slice (View.whole _) _) _).trans (View.set_slice_whole _ _)
theorem oSlot_set (n : ℕ) (h) : (oSlot n h).view.set = (Rect.unit (s := S2x512x512) ![n, 0, 0] S1x512x512.size h).set :=
  (View.set_reshape (v := View.slice (View.whole _) _) _).trans (View.set_slice_whole _ _)
theorem oStripe_set (n : ℕ) (h) : (oStripe n h).view.set = (Rect.unit (s := S512x8192) ![0, n] S512x512.size h).set :=
  View.set_slice_whole _ _

/-! ## Buffers whole, as their pieces -/

section Pieces
variable (c : Dev nD)

theorem ring8_list (P : Dev nD → sProp 𝕄) : bigSep Finset.univ P
    = iprop(P (peer c 0) ∗ P (peer c 1) ∗ P (peer c 2) ∗ P (peer c 3) ∗ P (peer c 4) ∗ P (peer c 5) ∗ P (peer c 6) ∗ P (peer c 7)) := by
  rw [bigSep_eq_bigSepL_of_eq ([0, 1, 2, 3, 4, 5, 6, 7].map (peer c)) (by revert c; decide) (by revert c; decide)]
  simp only [List.map_cons, List.map_nil, bigSepL_cons_cons, bigSepL_singleton]
  rfl

theorem aCol_disjoint (k k' : Dev nD) (h : k ≠ k') : Disjoint (aCol k).view.set (aCol k').view.set := by
  rw [aCol_set, aCol_set]
  exact Ring.lead_disjoint (s := S512x4096) (NB := 8) 1 512 (fun k => ![0, 512 * k.val]) S512x512.size col_inb (fun _ => rfl) rfl k k' h
theorem aCol_cover : Finset.biUnion (β := S512x4096.Idx) Finset.univ (fun k : Dev nD => ((aCol k).view.set : Finset (S512x4096).Idx)) = Finset.univ := by
  rw [Finset.biUnion_congr rfl fun k _ => aCol_set k]
  exact Ring.lead_cover (s := S512x4096) (NB := 8) 1 512 (fun k => ![0, 512 * k.val]) S512x512.size col_inb (fun _ => rfl)
    (by decide) rfl (by decide) rfl

/-- The assembled rows whole are the eight column blocks, the device's own first. -/
theorem a_split (f : S512x4096.Idx → Elt F .fp8e4m3) : (((aM.view.loc (c : Thread nD τ)) ↦{fullShare} f : sProp 𝕄))
    = iprop(colPts c (peer c 0) f ∗ colPts c (peer c 1) f ∗ colPts c (peer c 2) f ∗ colPts c (peer c 3) f ∗ colPts c (peer c 4) f
        ∗ colPts c (peer c 5) f ∗ colPts c (peer c 6) f ∗ colPts c (peer c 7) f) :=
  (Ring.pointsTo_blocks (ℓ := aM.view.loc (c : Thread nD τ)) (fun k : Dev nD => (aCol k).view.set) aCol_disjoint aCol_cover f).trans
    (ring8_list c fun k => colPts c k f)

theorem qSlot_disjoint (k k' : Dev nD) (h : k ≠ k') : Disjoint (qSlot k).view.set (qSlot k').view.set := by
  rw [qSlot_set, qSlot_set]
  exact Ring.lead_disjoint (s := S8x512x512) (NB := 8) 0 1 (fun k => ![k.val, 0, 0]) S1x512x512.size slot_inb
    (fun b => (Nat.one_mul _).symm) rfl k k' h
theorem qSlot_cover : Finset.biUnion (β := S8x512x512.Idx) Finset.univ (fun k : Dev nD => ((qSlot k).view.set : Finset (S8x512x512).Idx)) = Finset.univ := by
  rw [Finset.biUnion_congr rfl fun k _ => qSlot_set k]
  exact Ring.lead_cover (s := S8x512x512) (NB := 8) 0 1 (fun k => ![k.val, 0, 0]) S1x512x512.size slot_inb
    (fun b => (Nat.one_mul _).symm) (by decide) rfl (by decide) rfl

theorem dev8_list (P : Dev nD → sProp 𝕄) : bigSep Finset.univ P
    = iprop(P 0 ∗ P 1 ∗ P 2 ∗ P 3 ∗ P 4 ∗ P 5 ∗ P 6 ∗ P 7) := ring8_list 0 P

theorem q_split (f : S8x512x512.Idx → Elt F .fp8e4m3) : (((qM.view.loc (c : Thread nD τ)) ↦{fullShare} f : sProp 𝕄))
    = iprop(slotPts c 0 f ∗ slotPts c 1 f ∗ slotPts c 2 f ∗ slotPts c 3 f ∗ slotPts c 4 f ∗ slotPts c 5 f ∗ slotPts c 6 f ∗ slotPts c 7 f) :=
  (Ring.pointsTo_blocks (ℓ := qM.view.loc (c : Thread nD τ)) (fun k : Dev nD => (qSlot k).view.set) qSlot_disjoint qSlot_cover f).trans
    (dev8_list fun k => slotPts c k f)
theorem q_join (f₀ : S8x512x512.Idx → Elt F .fp8e4m3) :
    iprop((∃ f, slotPts c 0 f) ∗ (∃ f, slotPts c 1 f) ∗ (∃ f, slotPts c 2 f) ∗ (∃ f, slotPts c 3 f) ∗ (∃ f, slotPts c 4 f)
      ∗ (∃ f, slotPts c 5 f) ∗ (∃ f, slotPts c 6 f) ∗ (∃ f, slotPts c 7 f)) ⊢ (iprop(∃ g, (qM.view.loc (c : Thread nD τ)) ↦{fullShare} g) : sProp 𝕄) :=
  (Entails.of_eq (dev8_list fun k => iprop(∃ f, slotPts c k f)).symm).trans
    (Ring.pointsTo_blocks_join_exists (ℓ := qM.view.loc (c : Thread nD τ)) (fun k : Dev nD => (qSlot k).view.set) qSlot_disjoint qSlot_cover f₀)

/-! The blocks of the left operand landed in their eight slots -/

def xPts (d : Fin 8) (f : S8x512x512.Idx → Elt F .f32) : sProp 𝕄 :=
  (xSlot d.val (slot_inb d)).view.loc (c : Thread nD τ) ↦[(xSlot d.val (slot_inb d)).view.set]{fullShare} f
theorem xSlot_disjoint (k k' : Fin 8) (h : k ≠ k') : Disjoint (xSlot k.val (slot_inb k)).view.set (xSlot k'.val (slot_inb k')).view.set := by
  rw [xSlot_set, xSlot_set]
  exact Ring.lead_disjoint (s := S8x512x512) (NB := 8) 0 1 (fun k => ![k.val, 0, 0]) S1x512x512.size slot_inb
    (fun b => (Nat.one_mul _).symm) rfl k k' h
theorem xSlot_cover : Finset.biUnion (β := S8x512x512.Idx) Finset.univ (fun k : Fin 8 => ((xSlot k.val (slot_inb k)).view.set : Finset (S8x512x512).Idx)) = Finset.univ := by
  rw [Finset.biUnion_congr rfl fun k _ => xSlot_set k.val (slot_inb k)]
  exact Ring.lead_cover (s := S8x512x512) (NB := 8) 0 1 (fun k => ![k.val, 0, 0]) S1x512x512.size slot_inb
    (fun b => (Nat.one_mul _).symm) (by decide) rfl (by decide) rfl
theorem x_split (f : S8x512x512.Idx → Elt F .f32) : (((Memref.whole cc0_scratch0).view.loc (c : Thread nD τ)) ↦{fullShare} f : sProp 𝕄)
    = iprop(xPts c 0 f ∗ xPts c 1 f ∗ xPts c 2 f ∗ xPts c 3 f ∗ xPts c 4 f ∗ xPts c 5 f ∗ xPts c 6 f ∗ xPts c 7 f) :=
  (Ring.pointsTo_blocks (ℓ := (Memref.whole cc0_scratch0).view.loc (c : Thread nD τ)) (fun k : Fin 8 => (xSlot k.val (slot_inb k)).view.set) xSlot_disjoint xSlot_cover f).trans
    (dev8_list fun k => xPts c k f)
theorem x_join (f₀ : S8x512x512.Idx → Elt F .f32) :
    iprop((∃ f, xPts c 0 f) ∗ (∃ f, xPts c 1 f) ∗ (∃ f, xPts c 2 f) ∗ (∃ f, xPts c 3 f) ∗ (∃ f, xPts c 4 f)
      ∗ (∃ f, xPts c 5 f) ∗ (∃ f, xPts c 6 f) ∗ (∃ f, xPts c 7 f)) ⊢ (iprop(∃ g, ((Memref.whole cc0_scratch0).view.loc (c : Thread nD τ)) ↦{fullShare} g) : sProp 𝕄) :=
  (Entails.of_eq (dev8_list fun k => iprop(∃ f, xPts c k f)).symm).trans
    (Ring.pointsTo_blocks_join_exists (ℓ := (Memref.whole cc0_scratch0).view.loc (c : Thread nD τ)) (fun k : Fin 8 => (xSlot k.val (slot_inb k)).view.set) xSlot_disjoint xSlot_cover f₀)

/-! The right operand's stripes in their five slots -/

def wPts (d : Fin 5) (f : S5x4096x512.Idx → Elt F .f32) : sProp 𝕄 :=
  (wSlot d.val (wslot_inb d)).view.loc (c : Thread nD τ) ↦[(wSlot d.val (wslot_inb d)).view.set]{fullShare} f
theorem wSlot_disjoint (k k' : Fin 5) (h : k ≠ k') : Disjoint (wSlot k.val (wslot_inb k)).view.set (wSlot k'.val (wslot_inb k')).view.set := by
  rw [wSlot_set, wSlot_set]
  exact Ring.lead_disjoint (s := S5x4096x512) (NB := 5) 0 1 (fun k => ![k.val, 0, 0]) S1x4096x512.size wslot_inb
    (fun b => (Nat.one_mul _).symm) rfl k k' h
theorem wSlot_cover : Finset.biUnion (β := S5x4096x512.Idx) Finset.univ (fun k : Fin 5 => ((wSlot k.val (wslot_inb k)).view.set : Finset (S5x4096x512).Idx)) = Finset.univ := by
  rw [Finset.biUnion_congr rfl fun k _ => wSlot_set k.val (wslot_inb k)]
  exact Ring.lead_cover (s := S5x4096x512) (NB := 5) 0 1 (fun k => ![k.val, 0, 0]) S1x4096x512.size wslot_inb
    (fun b => (Nat.one_mul _).symm) (by decide) rfl (by decide) rfl
theorem five_list (P : Fin 5 → sProp 𝕄) : bigSep Finset.univ P = iprop(P 0 ∗ P 1 ∗ P 2 ∗ P 3 ∗ P 4) := by
  rw [bigSep_univ_eq_bigSepL [0, 1, 2, 3, 4] (by decide) (by decide)]; rfl
theorem w_split (f : S5x4096x512.Idx → Elt F .f32) : (((Memref.whole cc0_scratch3).view.loc (c : Thread nD τ)) ↦{fullShare} f : sProp 𝕄)
    = iprop(wPts c 0 f ∗ wPts c 1 f ∗ wPts c 2 f ∗ wPts c 3 f ∗ wPts c 4 f) :=
  (Ring.pointsTo_blocks (ℓ := (Memref.whole cc0_scratch3).view.loc (c : Thread nD τ)) (fun k : Fin 5 => (wSlot k.val (wslot_inb k)).view.set) wSlot_disjoint wSlot_cover f).trans
    (five_list fun k => wPts c k f)
theorem w_join (f₀ : S5x4096x512.Idx → Elt F .f32) :
    iprop((∃ f, wPts c 0 f) ∗ (∃ f, wPts c 1 f) ∗ (∃ f, wPts c 2 f) ∗ (∃ f, wPts c 3 f) ∗ (∃ f, wPts c 4 f))
      ⊢ (iprop(∃ g, ((Memref.whole cc0_scratch3).view.loc (c : Thread nD τ)) ↦{fullShare} g) : sProp 𝕄) :=
  (Entails.of_eq (five_list fun k => iprop(∃ f, wPts c k f)).symm).trans
    (Ring.pointsTo_blocks_join_exists (ℓ := (Memref.whole cc0_scratch3).view.loc (c : Thread nD τ)) (fun k : Fin 5 => (wSlot k.val (wslot_inb k)).view.set) wSlot_disjoint wSlot_cover f₀)

/-! The finished stripes in their two slots -/

def oPts (d : Fin 2) (f : S2x512x512.Idx → Elt F .f32) : sProp 𝕄 :=
  (oSlot d.val (oslot_inb d)).view.loc (c : Thread nD τ) ↦[(oSlot d.val (oslot_inb d)).view.set]{fullShare} f
theorem oSlot_disjoint (k k' : Fin 2) (h : k ≠ k') : Disjoint (oSlot k.val (oslot_inb k)).view.set (oSlot k'.val (oslot_inb k')).view.set := by
  rw [oSlot_set, oSlot_set]
  exact Ring.lead_disjoint (s := S2x512x512) (NB := 2) 0 1 (fun k => ![k.val, 0, 0]) S1x512x512.size oslot_inb
    (fun b => (Nat.one_mul _).symm) rfl k k' h
theorem oSlot_cover : Finset.biUnion (β := S2x512x512.Idx) Finset.univ (fun k : Fin 2 => ((oSlot k.val (oslot_inb k)).view.set : Finset (S2x512x512).Idx)) = Finset.univ := by
  rw [Finset.biUnion_congr rfl fun k _ => oSlot_set k.val (oslot_inb k)]
  exact Ring.lead_cover (s := S2x512x512) (NB := 2) 0 1 (fun k => ![k.val, 0, 0]) S1x512x512.size oslot_inb
    (fun b => (Nat.one_mul _).symm) (by decide) rfl (by decide) rfl
theorem two_list (P : Fin 2 → sProp 𝕄) : bigSep Finset.univ P = iprop(P 0 ∗ P 1) := by
  rw [bigSep_univ_eq_bigSepL [0, 1] (by decide) (by decide)]; rfl
theorem o_split (f : S2x512x512.Idx → Elt F .f32) : (((Memref.whole cc0_scratch4).view.loc (c : Thread nD τ)) ↦{fullShare} f : sProp 𝕄)
    = iprop(oPts c 0 f ∗ oPts c 1 f) :=
  (Ring.pointsTo_blocks (ℓ := (Memref.whole cc0_scratch4).view.loc (c : Thread nD τ)) (fun k : Fin 2 => (oSlot k.val (oslot_inb k)).view.set) oSlot_disjoint oSlot_cover f).trans
    (two_list fun k => oPts c k f)
theorem o_join (f₀ : S2x512x512.Idx → Elt F .f32) :
    iprop((∃ f, oPts c 0 f) ∗ (∃ f, oPts c 1 f))
      ⊢ (iprop(∃ g, ((Memref.whole cc0_scratch4).view.loc (c : Thread nD τ)) ↦{fullShare} g) : sProp 𝕄) :=
  (Entails.of_eq (two_list fun k => iprop(∃ f, oPts c k f)).symm).trans
    (Ring.pointsTo_blocks_join_exists (ℓ := (Memref.whole cc0_scratch4).view.loc (c : Thread nD τ)) (fun k : Fin 2 => (oSlot k.val (oslot_inb k)).view.set) oSlot_disjoint oSlot_cover f₀)

/-! The result's sixteen stripes -/

def rPts (t : Fin 16) (f : S512x8192.Idx → Elt F .f32) : sProp 𝕄 :=
  (oStripe (512 * t.val) (stripe_inb t)).view.loc (c : Thread nD τ) ↦[(oStripe (512 * t.val) (stripe_inb t)).view.set]{fullShare} f
theorem oStripe_disjoint (k k' : Fin 16) (h : k ≠ k') : Disjoint (oStripe (512 * k.val) (stripe_inb k)).view.set (oStripe (512 * k'.val) (stripe_inb k')).view.set := by
  rw [oStripe_set, oStripe_set]
  exact Ring.lead_disjoint (s := S512x8192) (NB := 16) 1 512 (fun k => ![0, 512 * k.val]) S512x512.size stripe_inb (fun _ => rfl) rfl k k' h
theorem oStripe_cover : Finset.biUnion (β := S512x8192.Idx) Finset.univ (fun k : Fin 16 => ((oStripe (512 * k.val) (stripe_inb k)).view.set : Finset (S512x8192).Idx)) = Finset.univ := by
  rw [Finset.biUnion_congr rfl fun k _ => oStripe_set _ (stripe_inb k)]
  exact Ring.lead_cover (s := S512x8192) (NB := 16) 1 512 (fun k => ![0, 512 * k.val]) S512x512.size stripe_inb (fun _ => rfl)
    (by decide) rfl (by decide) rfl
theorem sixteen_list (P : Fin 16 → sProp 𝕄) : bigSep Finset.univ P = iprop(P 0 ∗ P 1 ∗ P 2 ∗ P 3 ∗ P 4 ∗ P 5 ∗ P 6 ∗ P 7 ∗ P 8 ∗ P 9
    ∗ P 10 ∗ P 11 ∗ P 12 ∗ P 13 ∗ P 14 ∗ P 15) := by
  rw [bigSep_univ_eq_bigSepL [0, 1, 2, 3, 4, 5, 6, 7, 8, 9, 10, 11, 12, 13, 14, 15] (by decide) (by decide)]; rfl
theorem r_split (f : S512x8192.Idx → Elt F .f32) : (((Memref.whole main_v1).view.loc (c : Thread nD τ)) ↦{fullShare} f : sProp 𝕄)
    = iprop(rPts c 0 f ∗ rPts c 1 f ∗ rPts c 2 f ∗ rPts c 3 f ∗ rPts c 4 f ∗ rPts c 5 f ∗ rPts c 6 f ∗ rPts c 7 f ∗ rPts c 8 f ∗ rPts c 9 f
      ∗ rPts c 10 f ∗ rPts c 11 f ∗ rPts c 12 f ∗ rPts c 13 f ∗ rPts c 14 f ∗ rPts c 15 f) :=
  (Ring.pointsTo_blocks (ℓ := (Memref.whole main_v1).view.loc (c : Thread nD τ)) (fun k : Fin 16 => (oStripe (512 * k.val) (stripe_inb k)).view.set) oStripe_disjoint oStripe_cover f).trans
    (sixteen_list fun k => rPts c k f)

end Pieces

/-! ## What lands -/

theorem reshape_512 (h : S512x512.numel = (Shape.numel ⟨3, ![1, 512, 512]⟩)) (i j : Fin 512) :
    Shape.reshapeEquiv h (ix2 i j) = ix3 (0 : Fin 1) i j :=
  Shape.reshapeEquiv_eq_of_rowMajor h (by
    rw [Shape.rowMajor_val_three, Shape.rowMajor_val_two]
    show (0 * 512 + i.val) * 512 + j.val = i.val * 512 + j.val
    omega)

theorem aCol_emb (k : Dev nD) (i j : Fin 512) : (aCol k).view.emb (ix2 i j)
    = ix2 i ⟨512 * k.val + j.val, by have := k.isLt; change k.val < 8 at this; have := j.isLt; omega⟩ := by
  funext a
  refine Fin.ext ?_
  fin_cases a
  · show 0 + 1 * i.val = i.val; omega
  · show 512 * k.val + 1 * j.val = 512 * k.val + j.val; omega
theorem qSlot_emb (d : Dev nD) (i j : Fin 512) : (qSlot d).view.emb (ix2 i j) = ix3 d i j := by
  have h : (qSlot d).view.emb (ix2 i j) = (Rect.unit (s := S8x512x512) ![d.val, 0, 0] S1x512x512.size (slot_inb d)).emb (ix3 (0 : Fin 1) i j) := by
    rw [← reshape_512 squeezes_S1x512x512_S512x512.numel_eq]; rfl
  rw [h]
  funext a
  refine Fin.ext ?_
  fin_cases a
  · show d.val + 1 * 0 = d.val; omega
  · show 0 + 1 * i.val = i.val; omega
  · show 0 + 1 * j.val = j.val; omega

/-- Every element of a column block is one of its 512 × 512. -/
theorem aCol_mem {k : Dev nD} {x : S512x4096.Idx} (hx : x ∈ (aCol k).view.set) : ∃ i j : Fin 512, x = (aCol k).view.emb (ix2 i j) := by
  obtain ⟨z, -, rfl⟩ := Finset.mem_map.mp hx
  exact ⟨z 0, z 1, congrArg _ (ValueIdx.eq_ix2 z)⟩
theorem qSlot_mem {d : Dev nD} {x : S8x512x512.Idx} (hx : x ∈ (qSlot d).view.set) : ∃ i j : Fin 512, x = (qSlot d).view.emb (ix2 i j) := by
  obtain ⟨z, -, rfl⟩ := Finset.mem_map.mp hx
  exact ⟨z 0, z 1, congrArg _ (ValueIdx.eq_ix2 z)⟩

theorem rows_at (s k : Dev nD) (i j : Fin 512) : rows m s ((aCol k).view.emb (ix2 i j))
    = narrow (xIn m k (ix2 ⟨512 * s.val + i.val, by have := s.isLt; change s.val < 8 at this; have := i.isLt; omega⟩ j)) := by
  rw [aCol_emb]
  unfold rows
  have hk : (⟨(512 * k.val + j.val) / 512, by have := k.isLt; change k.val < 8 at this; have := j.isLt; show _ < 8; omega⟩ : Dev nD) = k :=
    Fin.ext (by show (512 * k.val + j.val) / 512 = k.val; have := j.isLt; omega)
  have hj : (⟨(512 * k.val + j.val) % 512, Nat.mod_lt _ (by decide)⟩ : Fin 512) = j :=
    Fin.ext (by show (512 * k.val + j.val) % 512 = j.val; have := j.isLt; omega)
  have h : ∀ (k' : Dev nD) (j' : Fin 512), k' = k → j' = j →
      narrow (F := F) (xIn m k' (ix2 ⟨512 * s.val + i.val, by have := s.isLt; change s.val < 8 at this; have := i.isLt; omega⟩ j'))
        = narrow (xIn m k (ix2 ⟨512 * s.val + i.val, by have := s.isLt; change s.val < 8 at this; have := i.isLt; omega⟩ j)) := by
    rintro _ _ rfl rfl; rfl
  exact h _ _ hk hj

theorem blocks_at (c d : Dev nD) (i j : Fin 512) : blocks m c ((qSlot d).view.emb (ix2 i j))
    = narrow (xIn m c (ix2 ⟨512 * ((c.val + d.val) % 8) + i.val, by have := i.isLt; omega⟩ j)) := by
  rw [qSlot_emb]; rfl

/-- The block a copy leaves on the device `d` places after `c` is `c`'s column block of that device's rows. -/
theorem landed (c d : Dev nD) (fd : S512x4096.Idx → Elt F .fp8e4m3) : ∀ x ∈ (aCol c).view.set,
    (aCol c).view.write (Elt F) fd ((qSlot d).view.read (Elt F) (blocks m c)) Finset.univ x = rows m (peer c d) x := by
  intro x hx
  obtain ⟨i, j, rfl⟩ := aCol_mem hx
  rw [View.write_emb_of_mem _ _ (Finset.mem_univ _), rows_at]
  exact blocks_at m c d i j

end Cert.Exchange
-- ==== Proof.Steps.lean ====
/-
# The exchange's steps

One rule for each kind of step that crosses devices: the signal to a peer's barrier, the wait on the own barrier, the copy to a
peer, the wait for a peer's copy, the wait for an own copy's source.
-/
module

public import proofs.«01_k».proof.Proof.Geometry

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]
local notation "𝕄" => MT nD τ sig Unit (Elt F) ℕ UU ℕ
variable (m : (ℓ : Loc nD τ sig) → Buf (Elt F) ℓ)

abbrev 𝒱₀ : Variants := Variants.none

/-! ## What is known of every cell -/

/-- A device's sixteen cells: its barrier, its seven send cells, its eight receive cells. -/
def ksem (j : Fin 16) : SemLoc sig :=
  if h : j.val = 0 then .reg barS
  else .dma ⟨9 + j.val, by have := j.isLt; show 9 + j.val < 32; omega⟩
def kcell (p : Dev nD × Fin 16) : GSem nD τ sig := ((p.1 : Thread nD τ), ksem p.2)

abbrev sendIx (d : Dev nD) : Fin 16 := ⟨d.val, by have := d.isLt; change d.val < 8 at this; omega⟩
abbrev recvIx (k : Dev nD) : Fin 16 := ⟨8 + k.val, by have := k.isLt; change k.val < 8 at this; omega⟩

theorem kcell_bar (c : Dev nD) : kcell (c, 0) = barCell c := rfl
theorem kcell_send (c d : Dev nD) (hd : d ≠ 0) : kcell (c, sendIx d) = sendCell c d := by
  unfold kcell ksem
  rw [dif_neg (show ¬ (sendIx d).val = 0 from fun h => hd (Fin.ext h))]
theorem kcell_recv (c k : Dev nD) : kcell (c, recvIx k) = recvCell c k := by
  unfold kcell ksem
  rw [dif_neg (by show 8 + k.val ≠ 0; omega)]
  refine congrArg (fun q => ((c : Thread nD τ), SemLoc.dma q)) (Fin.ext ?_)
  show 9 + (8 + k.val) = 17 + k.val
  omega

/-- Every cell's rounds are under way and its round 0 is reached. -/
def records (κ : Dev nD × Fin 16 → ℕ) : sProp 𝕄 :=
  iprop((bigSep Finset.univ fun p : Dev nD × Fin 16 => cellInv ER (sched m) (κ p) (kcell p))
    ∗ bigSep Finset.univ fun p : Dev nD × Fin 16 => reached ER (kcell p) 0)

instance records_persistent (κ : Dev nD × Fin 16 → ℕ) : BI.Persistent (records m κ) := by unfold records; infer_instance

variable {m} {κ : Dev nD × Fin 16 → ℕ}

theorem known (p : Dev nD × Fin 16) {g : GSem nD τ sig} (hg : kcell p = g) : records m κ ⊢ cellInv ER (sched m) (κ p) g := by
  subst hg
  unfold records
  iintro ⟨H, -⟩
  have h : (bigSep Finset.univ fun p : Dev nD × Fin 16 => (cellInv ER (sched m) (κ p) (kcell p) : sProp 𝕄))
      ⊢ cellInv ER (sched m) (κ p) (kcell p) := bigSep_elim (Finset.mem_univ p)
  iapply h; iexact H
theorem begun (p : Dev nD × Fin 16) {g : GSem nD τ sig} (hg : kcell p = g) : records m κ ⊢ reached ER g 0 := by
  subst hg
  unfold records
  iintro ⟨-, H⟩
  have h : (bigSep Finset.univ fun p : Dev nD × Fin 16 => (reached ER (kcell p) 0 : sProp 𝕄))
      ⊢ reached ER (kcell p) 0 := bigSep_elim (Finset.mem_univ p)
  iapply h; iexact H

/-! ## The steps -/

variable {α : Type} {k : PUnit → Prog (TpuEff nD τ sig (Elt F) Λ₀ .tc) α} {W : Waits sig Unit}

/-- Device `c` signals the device `d` places after it: it hands over its column block of that device's number. -/
theorem signal_step (c d : Dev nD) {Q : α → sProp 𝕄} (hd : d ≠ 0) {dev : Dev nD} (hdev : dev = peer c d) {z : ℤ} (hz : z = ((1 : ℕ) : ℤ))
    {O₀ O : CellTallies nD τ sig Unit} (hO : O₀ = O + tallyAt (barCell (peer c d)) () 1) :
    iprop(records m κ ∗ owes (c : Thread nD τ) O₀ W ∗ dutyTok ER (barCell (peer c d)) 0 c
        ∗ ∃ f, colPts c (peer c d) f)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (dev, Proc.tc) barS z) k) Q) := by
  subst hdev hz hO
  iintro ⟨#HR, HO, Ht, Hc⟩
  iapply (Rounds.wp_signal 𝒱₀ ER (sched m) (c : Thread nD τ) none (dst := (peer c d : Thread nD τ)) (κ := κ (peer c d, 0)) (d := c)
    (by rw [duties_bar]; exact Finset.mem_erase.mpr ⟨(peer_ne c d hd).symm, Finset.mem_univ _⟩) (amount_bar m (peer c d) c) () O rfl)
  isplitr; · iapply (known (m := m) (κ := κ) (peer c d, 0) (kcell_bar _)); iexact HR
  isplitl [HO]; · iexact HO
  isplitl [Ht]; · iexact Ht
  isplitl [Hc]
  · rw [payload_bar]; unfold barPay
    isplitl [Hc]; · iexact Hc
    iapply (begun (m := m) (κ := κ) (c, recvIx (peer c d)) (kcell_recv _ _)); iexact HR
  iapply (begun (m := m) (κ := κ) (peer c d, 0) (kcell_bar _)); iexact HR

/-- Device `c`'s wait on its barrier: every peer's column block of `c`'s number, free to be written. -/
theorem barrier_step (c : Dev nD) {Q : α → sProp 𝕄} (n : ℕ) {z : ℕ} (hz : z = 7) :
    iprop(records m κ ∗ levAts L lv ∗ owes (c : Thread nD τ) (owedR c n) W ∗ cred (tallyAt (barCell c) () 7) ∗ atPos ER (barCell c) 0 ∅ 0)
      ⊢ iprop(((owes (c : Thread nD τ) (owedR c n) (insert (.reg barS, ()) W) ∗ semVal (barCell c) 0
            ∗ (barPay (F := F) c (peer c 1) ∗ barPay (F := F) c (peer c 2) ∗ barPay (F := F) c (peer c 3) ∗ barPay (F := F) c (peer c 4)
              ∗ barPay (F := F) c (peer c 5) ∗ barPay (F := F) c (peer c 6) ∗ barPay (F := F) c (peer c 7)))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS z) k) Q) := by
  subst hz
  iintro ⟨#HR, #Hlev, HO, Hcr, Hat⟩ Hk
  iapply (Rounds.wp_wait_rest_token 𝒱₀ ER (sched m) (c : Thread nD τ) none (κ := κ (c, 0))
    (wpE_semWait_eq 𝒱₀ (c : Thread nD τ) none Set.univ) (Set.mem_univ _) () (O := owedR c n) (W := W) (R := 0) (m := 0) (T := ∅)
    (by rw [Nat.zero_add, expect_bar])) $$ [HO Hcr Hat]
  · isplitr; · iapply (known (m := m) (κ := κ) (c, 0) (kcell_bar _)); iexact HR
    isplitl [Hcr]; · iexact Hcr
    isplitl [HO]; · iexact HO
    isplitr; · iapply (mayWait_bar c n); iexact Hlev
    iexact Hat
  iintro ⟨HO, Hat, -, Hpay⟩
  ihave Hp := (Entails.of_eq (rest_bar m c)) $$ Hpay
  ihave Hcl := (Rounds.cell_close ER (sched m) (g := barCell c) (Set.mem_univ (κ (c, 0))) (fun h => h) (R := 0 + 1) (duties_later m _)) $$ [Hat]
  · isplitr; · iapply (known (m := m) (κ := κ) (c, 0) (kcell_bar _)); iexact HR
    iexact Hat
  imod Hcl
  iapply Hk
  isplitl [HO]; · iexact HO
  isplitl [Hcl]; · iexact Hcl
  iexact Hp

/-- Device `c`'s copy of its block `d` to the device `d` places after it. -/
theorem send_step (c d : Dev nD) {Q : α → sProp 𝕄} (hd : d ≠ 0) {dev : Dev nD} (hdev : dev = peer c d)
    {src dst : Memref sig .tc .vmem S512x512 .fp8e4m3} {sS sR : SemLoc sig} (hsrc : src = qSlot d) (hdst : dst = aCol c)
    (hS : sS = .dma (sendS d)) (hR : sR = .dma (recvS c))
    {O₀ O : CellTallies nD τ sig Unit} (hO : O₀ = O + tallyAt (recvCell (peer c d) c) () N)
    {hsc : (dst : Memref sig (Dev.tc dev : Thread nD τ).2.kind .vmem S512x512 .fp8e4m3).view.ref.isScScratch = false}
    {p₁ : src.view.WordExact} {p₂ : dst.view.WordExact}
    {p₃ : DmaTarget.Typed .vmem sR (.remote (Dev.tc dev : Thread nD τ) (dst : Memref sig .tc .vmem S512x512 .fp8e4m3) sS hsc)} :
    iprop(records m κ ∗ owes (c : Thread nD τ) O₀ W
        ∗ dutyTok ER (sendCell c d) 0 d ∗ dutyTok ER (recvCell (peer c d) c) 0 c
        ∗ slotPts c d (blocks m c) ∗ barPay (F := F) c (peer c d))
      ⊢ iprop((owes (c : Thread nD τ) O W ∗ cred (tallyAt (sendCell c d) () N)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc dev : Thread nD τ) dst sS hsc) sR p₁ p₂ p₃) k) Q) := by
  subst hdev hsrc hdst hS hR hO
  unfold barPay
  iintro ⟨#HR, HO, Ht₁, Ht₂, Hs, ⟨%fd, Hd⟩, #Hr⟩ Hk
  have h₁ : d ∈ (sched m).duties (sendCell c d) 0 := by rw [duties_send m c d hd]; exact Finset.mem_singleton_self _
  have h₂ : c ∈ (sched m).duties (recvCell (peer c d) c) 0 := by
    rw [duties_recv m (peer c d) c (peer_ne c d hd).symm]; exact Finset.mem_singleton_self _
  have hN : (aCol c).view.amount (.dma (recvS c)) = N := rfl
  have hpay₁ : ((qSlot d).view.loc (c : Thread nD τ) ↦[(qSlot d).view.set]{fullShare} blocks m c : sProp 𝕄)
      ⊢ (sched m).payload (sendCell c d) 0 d := by rw [payload_send]; unfold slotPts; exact BI.Entails.refl _
  have hpay₂ : ((aCol c).view.loc (peer c d : Thread nD τ) ↦[(aCol c).view.set]{fullShare}
      ((aCol c).view.write (Elt F) fd ((qSlot d).view.read (Elt F) (blocks m c)) Finset.univ) : sProp 𝕄)
      ⊢ (sched m).payload (recvCell (peer c d) c) 0 c := by
    rw [payload_recv]; unfold colPts; exact Entails.of_eq (pointsTo_congr (landed m c d fd))
  have key := Rounds.wp_send_pointsTo (Q := Q) (k := k) 𝒱₀ ER (sched m) (c : Thread nD τ) none (κ₁ := κ (c, sendIx d)) (κ₂ := κ (peer c d, recvIx c))
    (c' := (peer c d : Thread nD τ)) (src := qSlot d) (dst := aCol c) (sS := .dma (sendS d)) (sem := .dma (recvS c)) (hsc := hsc) (hsrc := p₁) (hdst := p₂) (hsem := p₃) (defs := defs₀ (F := F))
    (r₁ := 0) (r₂ := 0) (d₁ := d) (d₂ := c) (fd := fd) (fs := blocks m c) (q := fullShare)
    h₁ h₂ () () N hN (amount_send m c d d) (amount_recv m (peer c d) c c) O rfl (W := W)
    hpay₁ hpay₂ (Es := Set.univ) (Γ := .empty)
  iapply key $$ [HO Ht₁ Ht₂ Hs Hd]
  · isplitr; · iapply (known (m := m) (κ := κ) (c, sendIx d) (kcell_send _ _ hd)); iexact HR
    isplitr; · iapply (known (m := m) (κ := κ) (peer c d, recvIx c) (kcell_recv _ _)); iexact HR
    isplitl [Hs]; · unfold slotPts; iexact Hs
    isplitl [Hd]; · unfold colPts; iexact Hd
    isplitl [HO]; · iexact HO
    isplitl [Ht₁]; · iexact Ht₁
    isplitr; · iapply (begun (m := m) (κ := κ) (c, sendIx d) (kcell_send _ _ hd)); iexact HR
    isplitl [Ht₂]; · iexact Ht₂
    iexact Hr
  iintro ⟨Hc, HO⟩
  iapply Hk
  isplitl [HO]; · iexact HO
  iexact Hc

/-- Device `c`'s wait for device `j`'s block. -/
theorem recv_step (c j : Dev nD) {Q : α → sProp 𝕄} (hj : j ≠ c) {q : DmaSem sig} (hq : q = recvS j) {sp : Space} {s : Shape} {e : EltTy}
    {src : Memref sig .tc sp s e} {dst : Memref sig .tc .vmem S512x512 .fp8e4m3} (hN : dst.view.dmaCredit = N)
    {p₁ : src.view.WordExact} {p₂ : dst.view.WordExact} :
    iprop(records m κ ∗ owes (c : Thread nD τ) 0 W ∗ cred (tallyAt (recvCell c j) () N) ∗ atPos ER (recvCell c j) 0 ∅ 0)
      ⊢ iprop((owes (c : Thread nD τ) 0 (insert (.dma (recvS j), ()) W) ∗ semVal (recvCell c j) 0 ∗ colPts c j (rows m c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst p₁ p₂) k) Q) := by
  subst hq
  iintro ⟨#HR, HO, Hcr, Hat⟩ Hk
  iapply (Rounds.wp_wait_rest_token 𝒱₀ ER (sched m) (c : Thread nD τ) none (κ := κ (c, recvIx j))
    (wpE_waitDma2_eq 𝒱₀ (c : Thread nD τ) none Set.univ) (Set.mem_univ _) () (O := 0) (W := W) (R := 0) (m := 0) (T := ∅)
    (by rw [Nat.zero_add, expect_recv m c j hj, hN])) $$ [HO Hcr Hat]
  · isplitr; · iapply (known (m := m) (κ := κ) (c, recvIx j) (kcell_recv _ _)); iexact HR
    isplitl [Hcr]; · rw [hN]; iexact Hcr
    isplitl [HO]; · iexact HO
    isplitr; · rw [MayWait_zero]; iempintro
    iexact Hat
  iintro ⟨HO, Hat, -, Hpay⟩
  ihave Hp := (Entails.of_eq (rest_recv m c j hj)) $$ Hpay
  ihave Hcl := (Rounds.cell_close ER (sched m) (g := recvCell c j) (Set.mem_univ (κ (c, recvIx j))) (fun h => h) (R := 0 + 1) (duties_later m _)) $$ [Hat]
  · isplitr; · iapply (known (m := m) (κ := κ) (c, recvIx j) (kcell_recv _ _)); iexact HR
    iexact Hat
  imod Hcl
  iapply Hk
  isplitl [HO]; · iexact HO
  isplitl [Hcl]; · iexact Hcl
  iexact Hp

/-- Device `c`'s wait for its own copy `d`: the source slot back. -/
theorem sent_step (c d : Dev nD) {Q : α → sProp 𝕄} (hd : d ≠ 0) {q : DmaSem sig} (hq : q = sendS d) {sp : Space} {s : Shape} {e : EltTy}
    {src : Memref sig .tc sp s e} {dst : Memref sig .tc .vmem S512x512 .fp8e4m3} (hN : dst.view.dmaCredit = N)
    {p₁ : src.view.WordExact} {p₂ : dst.view.WordExact} :
    iprop(records m κ ∗ owes (c : Thread nD τ) 0 W ∗ cred (tallyAt (sendCell c d) () N) ∗ atPos ER (sendCell c d) 0 ∅ 0)
      ⊢ iprop((owes (c : Thread nD τ) 0 (insert (.dma (sendS d), ()) W) ∗ semVal (sendCell c d) 0 ∗ slotPts c d (blocks m c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst p₁ p₂) k) Q) := by
  subst hq
  iintro ⟨#HR, HO, Hcr, Hat⟩ Hk
  iapply (Rounds.wp_wait_rest_token 𝒱₀ ER (sched m) (c : Thread nD τ) none (κ := κ (c, sendIx d))
    (wpE_waitDma2_eq 𝒱₀ (c : Thread nD τ) none Set.univ) (Set.mem_univ _) () (O := 0) (W := W) (R := 0) (m := 0) (T := ∅)
    (by rw [Nat.zero_add, expect_send m c d hd, hN])) $$ [HO Hcr Hat]
  · isplitr; · iapply (known (m := m) (κ := κ) (c, sendIx d) (kcell_send _ _ hd)); iexact HR
    isplitl [Hcr]; · rw [hN]; iexact Hcr
    isplitl [HO]; · iexact HO
    isplitr; · rw [MayWait_zero]; iempintro
    iexact Hat
  iintro ⟨HO, Hat, -, Hpay⟩
  ihave Hp := (Entails.of_eq (rest_send m c d hd)) $$ Hpay
  ihave Hcl := (Rounds.cell_close ER (sched m) (g := sendCell c d) (Set.mem_univ (κ (c, sendIx d))) (fun h => h) (R := 0 + 1) (duties_later m _)) $$ [Hat]
  · isplitr; · iapply (known (m := m) (κ := κ) (c, sendIx d) (kcell_send _ _ hd)); iexact HR
    iexact Hat
  imod Hcl
  iapply Hk
  isplitl [HO]; · iexact HO
  isplitl [Hcl]; · iexact Hcl
  iexact Hp

/-- Nobody ever pays the receive cell of a device's own number: it is closed unused. -/
theorem self_close (c : Dev nD) : iprop(records m κ ∗ atPos ER (recvCell c c) 0 ∅ 0) ⊢ (iprop(|={Set.univ}=> semVal (recvCell c c) 0) : sProp 𝕄) := by
  iintro ⟨#HR, Hat⟩
  iapply (Rounds.cell_close ER (sched m) (g := recvCell c c) (Set.mem_univ (κ (c, recvIx c))) (fun h => h) (R := 0)
    (fun r _ => by rcases Nat.eq_zero_or_pos r with rfl | h; exact duties_self m c; exact duties_later m _ r h))
  isplitr; · iapply (known (m := m) (κ := κ) (c, recvIx c) (kcell_recv _ _)); iexact HR
  iexact Hat

end Cert.Exchange
-- ==== Proof.Contents.lean ====
/-
# What the local steps leave

A block fetched by a copy and read back is the block of the operand; narrowed and stored it is a slot of the narrowed
blocks, or the device's own column block.
-/
module

public import proofs.«01_k».proof.Proof.Steps
public import Idealize.ShloMosaic.Lib.VecWindow
public import Idealize.ShloMosaic.Lib.Exec

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx (ix1 ix2 ix3 shapeCast_1ab_ab_apply shapeCast_ab_1ab_apply)

variable {F : FTy → Type} [FloatOps F]
local notation "𝕄" => MT nD τ sig Unit (Elt F) ℕ UU ℕ
variable (m : (ℓ : Loc nD τ sig) → Buf (Elt F) ℓ)

/-! ## The pieces a device's walk holds -/

abbrev lsem (c : Dev nD) (q : DmaSem sig) : sProp 𝕄 := semVal ((c : Thread nD τ), .dma q) 0
abbrev xTok (c : Dev nD) (i : ℕ) (f : Buf (Elt F) ((c : Thread nD τ).loc main_arg0)) : sProp 𝕄 := ((Memref.whole main_arg0).view.loc (c : Thread nD τ)) ↦{shareTokN fullShare i} f
abbrev wTok (c : Dev nD) (i : ℕ) (f : Buf (Elt F) ((c : Thread nD τ).loc main_arg1)) : sProp 𝕄 := ((Memref.whole main_arg1).view.loc (c : Thread nD τ)) ↦{shareTokN fullShare i} f
abbrev xSl (c : Dev nD) (n : ℕ) (h : ∀ a : Fin 3, (![n, 0, 0] : Fin 3 → ℕ) a + S1x512x512.size a ≤ S8x512x512.size a) (f : Buf (Elt F) ((c : Thread nD τ).loc cc0_scratch0)) : sProp 𝕄 :=
  (xSlot n h).view.loc (c : Thread nD τ) ↦[(xSlot n h).view.set]{fullShare} f
abbrev wSl (c : Dev nD) (n : ℕ) (h : ∀ a : Fin 3, (![n, 0, 0] : Fin 3 → ℕ) a + S1x4096x512.size a ≤ S5x4096x512.size a) (f : Buf (Elt F) ((c : Thread nD τ).loc cc0_scratch3)) : sProp 𝕄 :=
  (wSlot n h).view.loc (c : Thread nD τ) ↦[(wSlot n h).view.set]{fullShare} f
abbrev oSl (c : Dev nD) (n : ℕ) (h : ∀ a : Fin 3, (![n, 0, 0] : Fin 3 → ℕ) a + S1x512x512.size a ≤ S2x512x512.size a) (f : Buf (Elt F) ((c : Thread nD τ).loc cc0_scratch4)) : sProp 𝕄 :=
  (oSlot n h).view.loc (c : Thread nD τ) ↦[(oSlot n h).view.set]{fullShare} f
abbrev rSl (c : Dev nD) (n : ℕ) (h : ∀ a : Fin 2, (![0, n] : Fin 2 → ℕ) a + S512x512.size a ≤ S512x8192.size a) (f : Buf (Elt F) ((c : Thread nD τ).loc main_v1)) : sProp 𝕄 :=
  (oStripe n h).view.loc (c : Thread nD τ) ↦[(oStripe n h).view.set]{fullShare} f
abbrev aSl (c : Dev nD) (f : Buf (Elt F) ((c : Thread nD τ).loc cc0_scratch2)) : sProp 𝕄 :=
  (aCol c).view.loc (c : Thread nD τ) ↦[(aCol c).view.set]{fullShare} f
abbrev qSlotN (n : ℕ) (h : ∀ a : Fin 3, (![n, 0, 0] : Fin 3 → ℕ) a + S1x512x512.size a ≤ S8x512x512.size a) : Memref sig .tc .vmem S512x512 .fp8e4m3 :=
  ((Memref.whole cc0_scratch1).slice (Rect.unit (s := S8x512x512) ![n, 0, 0] S1x512x512.size h) (fun _ => rfl)).squeeze S512x512
    squeezes_S1x512x512_S512x512
abbrev qSl (c : Dev nD) (n : ℕ) (h : ∀ a : Fin 3, (![n, 0, 0] : Fin 3 → ℕ) a + S1x512x512.size a ≤ S8x512x512.size a) (f : Buf (Elt F) ((c : Thread nD τ).loc cc0_scratch1)) : sProp 𝕄 :=
  (qSlotN n h).view.loc (c : Thread nD τ) ↦[(qSlotN n h).view.set]{fullShare} f

/-! ## Blocks of the left operand -/

/-- A block copied into a slot, read back from it. -/
theorem staged_x (n : ℕ) (h : ∀ a : Fin 3, (![n, 0, 0] : Fin 3 → ℕ) a + S1x512x512.size a ≤ S8x512x512.size a)
    (f : S8x512x512.Idx → Elt F .f32) (v : S512x512.Idx → Elt F .f32) (i j : Fin 512) :
    View.readAt (Elt F) (Memref.whole cc0_scratch0).view (Rect.unit (s := S8x512x512) ![n, 0, 0] S1x512x512.size h).toLoadRect
      ((xSlot n h).view.writes (Elt F) f [⟨Rect.whole S512x512, v⟩]) (ix3 (0 : Fin 1) i j) = v (ix2 i j) := by
  rw [← View.write_univ_eq_writes_whole]
  have h1 : (xSlot n h).view.emb (ix2 i j) = (Rect.unit (s := S8x512x512) ![n, 0, 0] S1x512x512.size h).emb (ix3 (0 : Fin 1) i j) := by
    rw [← reshape_512 squeezes_S1x512x512_S512x512.numel_eq]; rfl
  have h2 := View.write_emb_of_mem (v := (xSlot n h).view) (Val := Elt F) f v (Finset.mem_univ (ix2 i j))
  rw [h1] at h2
  exact h2

/-- Block `r` places after `c` of the operand, as the copy fetches it. -/
theorem fetched_x (c : Dev nD) (r : Fin 8) (o : Fin 2 → ℕ) (ho : o = ![512 * ((c.val + r.val) % 8), 0])
    (h : ∀ a : Fin 2, o a + S512x512.size a ≤ S4096x512.size a) (hu) (x : S4096x512.Idx → Elt F .f32) (i j : Fin 512) :
    (ReadAs.same : ReadAs (Elt F) S512x512 .f32 S512x512 .f32).apply (View.read (Elt F)
      ((Memref.whole main_arg0).slice (Rect.unit (s := S4096x512) o S512x512.size h) hu).view x) (ix2 i j)
      = x (ix2 ⟨512 * ((c.val + r.val) % 8) + i.val, by have := i.isLt; omega⟩ j) := by
  subst ho
  show x _ = x _
  refine congrArg x ?_
  funext a
  refine Fin.ext ?_
  fin_cases a
  · show 512 * ((c.val + r.val) % 8) + 1 * i.val = 512 * ((c.val + r.val) % 8) + i.val; omega
  · show 0 + 1 * j.val = j.val; omega

theorem pay1_at (v : Vec F S1x512x512 .f32) (i j : Fin 512) : k0_pay1 v (ix2 i j) = narrow (v (ix3 (0 : Fin 1) i j)) := by
  unfold k0_pay1
  rw [shapeCast_self]
  show narrow (shapeCast S512x512 v _ (ix2 i j)) = _
  rw [shapeCast_1ab_ab_apply]
theorem pay2_at (v : Vec F S1x512x512 .f32) (i j : Fin 512) : k0_pay2 v (ix3 (0 : Fin 1) i j) = narrow (v (ix3 (0 : Fin 1) i j)) := by
  unfold k0_pay2
  rw [shapeCast_ab_1ab_apply]
  show narrow (shapeCast S512x512 v _ (ix2 i j)) = _
  rw [shapeCast_1ab_ab_apply]

/-- A block stored over the device's own columns. -/
theorem own_stored (c : Dev nD) (o : Fin 2 → ℕ) (ho : o = ![0, 512 * c.val]) (h : ∀ a : Fin 2, o a + S512x512.size a ≤ S512x4096.size a)
    (fa : S512x4096.Idx → Elt F .fp8e4m3) (p : S512x512.Idx → Elt F .fp8e4m3)
    (hp : ∀ i j : Fin 512, p (ix2 i j) = narrow (xIn m c (ix2 ⟨512 * ((c.val + 0) % 8) + i.val, by have := i.isLt; omega⟩ j))) :
    ((aCol c).view.loc (c : Thread nD τ) ↦[(aCol c).view.set]{fullShare}
      View.write (Elt F) ((Memref.whole cc0_scratch2).access (Rect.unit (s := S512x4096) o S512x512.size h)) fa p Finset.univ : sProp 𝕄)
    ⊢ colPts c c (rows m c) := by
  subst ho
  refine Entails.of_eq (pointsTo_congr fun x hx => ?_)
  obtain ⟨i, j, rfl⟩ := aCol_mem hx
  rw [rows_at]
  refine (View.write_emb_of_mem (v := (aCol c).view) (Val := Elt F) fa p (Finset.mem_univ (ix2 i j))).trans ((hp i j).trans ?_)
  congr 4
  have := c.isLt; change c.val < 8 at this; omega

/-- A narrowed block stored in its slot. -/
theorem slot_stored (c d : Dev nD) (n : ℕ) (hn : n = d.val)
    (h : ∀ a : Fin 3, (![n, 0, 0] : Fin 3 → ℕ) a + S1x512x512.size a ≤ S8x512x512.size a)
    (h' : ∀ a : Fin 3, (![n, 0, 0] : Fin 3 → ℕ) a + S1x512x512.size a ≤ S8x512x512.size a)
    (fq : S8x512x512.Idx → Elt F .fp8e4m3) (p : S1x512x512.Idx → Elt F .fp8e4m3)
    (hp : ∀ i j : Fin 512, p (ix3 (0 : Fin 1) i j) = narrow (xIn m c (ix2 ⟨512 * ((c.val + d.val) % 8) + i.val, by have := i.isLt; omega⟩ j))) :
    ((qSlotN n h).view.loc (c : Thread nD τ) ↦[(qSlotN n h).view.set]{fullShare}
      View.write (Elt F) ((Memref.whole cc0_scratch1).access (Rect.unit (s := S8x512x512) ![n, 0, 0] S1x512x512.size h')) fq p Finset.univ : sProp 𝕄)
    ⊢ slotPts c d (blocks m c) := by
  subst hn
  refine Entails.of_eq (pointsTo_congr fun x hx => ?_)
  obtain ⟨i, j, rfl⟩ := qSlot_mem (d := d) hx
  rw [blocks_at]
  have h1 : (qSlot d).view.emb (ix2 i j) = (Rect.unit (s := S8x512x512) ![d.val, 0, 0] S1x512x512.size h').emb (ix3 (0 : Fin 1) i j) := by
    rw [← reshape_512 squeezes_S1x512x512_S512x512.numel_eq]; rfl
  have h2 := View.write_emb_of_mem (v := (Memref.whole cc0_scratch1).access (Rect.unit (s := S8x512x512) ![d.val, 0, 0] S1x512x512.size h'))
    (Val := Elt F) fq p (Finset.mem_univ (ix3 (0 : Fin 1) i j))
  rw [h1]
  exact h2.trans (hp i j)

/-! ## The semaphores and blocks named by a computed place -/

omit [FloatOps F] in
theorem recvSem_eq (k : Dev nD) (o : Fin 1 → ℕ) (ho : o = ![k.val]) (h : ∀ a : Fin 1, o a + S1.size a ≤ S8.size a) :
    ((cc0_scratch7.slice (Rect.unit (s := S8) o S1.size h)).squeeze S_ squeezes_S1_S_).sem = recvS k := by
  subst ho
  have h' : ∀ k : Dev nD, ((cc0_scratch7.slice (Rect.unit (s := S8) ![k.val] S1.size
      (by revert k; decide))).squeeze S_ squeezes_S1_S_).sem = recvS k := by decide
  exact h' k
omit [FloatOps F] in
theorem sendSem_eq (d : Dev nD) (n : ℕ) (hn : n + 1 = d.val) (h : ∀ a : Fin 1, (![n] : Fin 1 → ℕ) a + S1.size a ≤ S7.size a) :
    ((cc0_scratch6.slice (Rect.unit (s := S7) ![n] S1.size h)).squeeze S_ squeezes_S1_S_).sem = sendS d := by
  have hn' : n < 7 := by have := h 0; change n + 1 ≤ 7 at this; omega
  have h' : ∀ n : Fin 7, ((cc0_scratch6.slice (Rect.unit (s := S7) ![n.val] S1.size
      (by revert n; decide))).squeeze S_ squeezes_S1_S_).sem.val = 10 + n.val := by decide
  refine Fin.ext ((h' ⟨n, hn'⟩).trans ?_)
  show 10 + n = 9 + d.val
  omega
omit [FloatOps F] in
theorem col_eq (k : Dev nD) (o : Fin 2 → ℕ) (ho : o = ![0, 512 * k.val]) (h : ∀ a : Fin 2, o a + S512x512.size a ≤ S512x4096.size a) (hu) :
    (Memref.whole cc0_scratch2).slice (Rect.unit (s := S512x4096) o S512x512.size h) hu = aCol k :=
  Memref.slice_unit_congr _ ho _ _ _ _

/-! ## The waits, on the blocks the kernel names -/

variable {κ : Dev nD × Fin 16 → ℕ} {α : Type} {W : Waits sig Unit} {k : PUnit → Prog (TpuEff nD τ sig (Elt F) Λ₀ .tc) α}

/-- A cell whose semaphore is back at zero. -/
def idle (g : GSem nD τ sig) : sProp 𝕄 := semVal g 0

theorem recv_wait (c j : Dev nD) {Q : α → sProp 𝕄} (hj : j ≠ c) {q : DmaSem sig} (hq : q = recvS j) {sp : Space} {s : Shape} {e : EltTy}
    {src : Memref sig .tc sp s e} {o : Fin 2 → ℕ} {h : ∀ a : Fin 2, o a + S512x512.size a ≤ S512x4096.size a} {hu}
    {p₁ : src.view.WordExact} {p₂ : ((Memref.whole cc0_scratch2).slice (Rect.unit (s := S512x4096) o S512x512.size h) hu).view.WordExact} :
    iprop(records m κ ∗ owes (c : Thread nD τ) 0 W ∗ cred (tallyAt (recvCell c j) () N) ∗ atPos ER (recvCell c j) 0 ∅ 0)
      ⊢ iprop((owes (c : Thread nD τ) 0 (insert (.dma (recvS j), ()) W) ∗ idle (recvCell c j) ∗ colPts c j (rows m c)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 q src ((Memref.whole cc0_scratch2).slice (Rect.unit (s := S512x4096) o S512x512.size h) hu) p₁ p₂) k) Q) := by
  unfold idle
  exact recv_step c j hj hq (src := src) (dst := (Memref.whole cc0_scratch2).slice (Rect.unit (s := S512x4096) o S512x512.size h) hu) rfl
    (p₁ := p₁) (p₂ := p₂)

theorem sent_wait (c d : Dev nD) {Q : α → sProp 𝕄} (hd : d ≠ 0) {q : DmaSem sig} (hq : q = sendS d) {sp : Space} {s : Shape} {e : EltTy}
    {src : Memref sig .tc sp s e} {n : ℕ} {h : ∀ a : Fin 3, (![n, 0, 0] : Fin 3 → ℕ) a + S1x512x512.size a ≤ S8x512x512.size a}
    {p₁ : src.view.WordExact} {p₂ : (qSlotN n h).view.WordExact} :
    iprop(records m κ ∗ owes (c : Thread nD τ) 0 W ∗ cred (tallyAt (sendCell c d) () N) ∗ atPos ER (sendCell c d) 0 ∅ 0)
      ⊢ iprop((owes (c : Thread nD τ) 0 (insert (.dma (sendS d), ()) W) ∗ idle (sendCell c d) ∗ slotPts c d (blocks m c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src (qSlotN n h) p₁ p₂) k) Q) := by
  unfold idle
  exact sent_step c d hd hq (src := src) (dst := qSlotN n h) rfl (p₁ := p₁) (p₂ := p₂)

/-- Owing nothing, a device may wait on anything. -/
theorem mayWait_free (c : Dev nD) (q : SemLoc sig) : (levAts L lv : sProp 𝕄) ⊢ MayWait (c : Thread nD τ) q () 0 := by
  have h : (emp : sProp 𝕄) ⊢ MayWait (c : Thread nD τ) q () 0 := by simp; exact Entails.refl _
  iintro -
  iapply h
  iempintro

end Cert.Exchange
-- ==== Proof.Stripes.lean ====
/-
# The stripes of the result

What a stripe of the right operand read back from its slot is, the one form of the sixteen payloads stored, and the
stripes of the result written from them.
-/
module

public import proofs.«01_k».proof.Proof.Contents

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]
local notation "𝕄" => MT nD τ sig Unit (Elt F) ℕ UU ℕ
variable (m : (ℓ : Loc nD τ sig) → Buf (Elt F) ℓ)

/-- Stripe `t` of the right operand: 512 of its columns, as a loaded block. -/
def stripeOf (w : S4096x8192.Idx → Elt F .f32) (t : Fin 16) : Vec F S1x4096x512 .f32 := fun z =>
  w (ix2 (z 1) ⟨512 * t.val + (z 2).val, by have := (z 2).isLt; change (z 2).val < 512 at this; have := t.isLt; omega⟩)

/-- The result of a device: each stripe the rescaled, gated product of the rows with the stripe of the right operand. -/
def product (s : F .f32) (a : Vec F S512x4096 .fp8e4m3) (w : S4096x8192.Idx → Elt F .f32) : S512x8192.Idx → Elt F .f32 := fun p =>
  k0_pay22 s (stripeOf w ⟨(p 1).val / 512, by have := (p 1).isLt; change (p 1).val < 8192 at this; omega⟩) a
    (ix3 (0 : Fin 1) (p 0) ⟨(p 1).val % 512, Nat.mod_lt _ (by decide)⟩)

theorem reshape_4096 (h : S4096x512.numel = (Shape.numel ⟨3, ![1, 4096, 512]⟩)) (i : Fin 4096) (j : Fin 512) :
    Shape.reshapeEquiv h (ix2 i j) = ix3 (0 : Fin 1) i j :=
  Shape.reshapeEquiv_eq_of_rowMajor h (by
    rw [Shape.rowMajor_val_three, Shape.rowMajor_val_two]
    show (0 * 4096 + i.val) * 512 + j.val = i.val * 512 + j.val
    omega)

/-- A stripe written into a slot, read back from it. -/
theorem staged_w (n : ℕ) (h h' : ∀ a : Fin 3, (![n, 0, 0] : Fin 3 → ℕ) a + S1x4096x512.size a ≤ S5x4096x512.size a)
    (f : S5x4096x512.Idx → Elt F .f32) (L : List (View.Piece (Elt F) S4096x512 .f32)) (v : S4096x512.Idx → Elt F .f32)
    (i : Fin 4096) (j : Fin 512) :
    View.readAt (Elt F) (Memref.whole cc0_scratch3).view (Rect.unit (s := S5x4096x512) ![n, 0, 0] S1x4096x512.size h').toLoadRect
      ((wSlot n h).view.writes (Elt F) f (⟨Rect.whole S4096x512, v⟩ :: L)) (ix3 (0 : Fin 1) i j) = v (ix2 i j) := by
  have key : ∀ g : S5x4096x512.Idx → Elt F .f32,
      View.readAt (Elt F) (Memref.whole cc0_scratch3).view (Rect.unit (s := S5x4096x512) ![n, 0, 0] S1x4096x512.size h').toLoadRect
        ((wSlot n h).view.writes (Elt F) g [⟨Rect.whole S4096x512, v⟩]) (ix3 (0 : Fin 1) i j) = v (ix2 i j) := by
    intro g
    rw [← View.write_univ_eq_writes_whole]
    have h1 : (wSlot n h).view.emb (ix2 i j) = (Rect.unit (s := S5x4096x512) ![n, 0, 0] S1x4096x512.size h).emb (ix3 (0 : Fin 1) i j) := by
      rw [← reshape_4096 squeezes_S1x4096x512_S4096x512.numel_eq]; rfl
    have h2 := View.write_emb_of_mem (v := (wSlot n h).view) (Val := Elt F) g v (Finset.mem_univ (ix2 i j))
    rw [h1] at h2
    exact h2
  exact key ((wSlot n h).view.writes (Elt F) f L)

/-- A stripe of the right operand, as the copy fetches it. -/
theorem fetched_w (t : Fin 16) (o : Fin 2 → ℕ) (ho : o = ![0, 512 * t.val])
    (hh : ∀ a : Fin 2, o a + S4096x512.size a ≤ S4096x8192.size a) (hu) (w : S4096x8192.Idx → Elt F .f32) (i : Fin 4096) (j : Fin 512) :
    (ReadAs.same : ReadAs (Elt F) S4096x512 .f32 S4096x512 .f32).apply
        (View.read (Elt F) ((Memref.whole main_arg1).slice (Rect.unit (s := S4096x8192) o S4096x512.size hh) hu).view w) (ix2 i j)
      = stripeOf w t (ix3 (0 : Fin 1) i j) := by
  subst ho
  show w _ = w _
  refine congrArg w ?_
  funext a
  refine Fin.ext ?_
  fin_cases a
  · show 0 + 1 * i.val = i.val; omega
  · show 512 * t.val + 1 * j.val = 512 * t.val + j.val; omega

theorem stripe_read (n : ℕ) (h h' : ∀ a : Fin 3, (![n, 0, 0] : Fin 3 → ℕ) a + S1x4096x512.size a ≤ S5x4096x512.size a)
    (f : S5x4096x512.Idx → Elt F .f32) (L : List (View.Piece (Elt F) S4096x512 .f32)) (t : Fin 16) (o : Fin 2 → ℕ) (ho : o = ![0, 512 * t.val])
    (hh : ∀ a : Fin 2, o a + S4096x512.size a ≤ S4096x8192.size a) (hu) (w : S4096x8192.Idx → Elt F .f32) :
    View.readAt (Elt F) (Memref.whole cc0_scratch3).view (Rect.unit (s := S5x4096x512) ![n, 0, 0] S1x4096x512.size h').toLoadRect
      ((wSlot n h).view.writes (Elt F) f (⟨Rect.whole S4096x512, (ReadAs.same : ReadAs (Elt F) S4096x512 .f32 S4096x512 .f32).apply
        (View.read (Elt F) ((Memref.whole main_arg1).slice (Rect.unit (s := S4096x8192) o S4096x512.size hh) hu).view w)⟩ :: L))
      = stripeOf w t := by
  funext z
  obtain ⟨u, i, j, rfl⟩ : ∃ (u : Fin 1) (i : Fin 4096) (j : Fin 512), z = ix3 u i j := ⟨z 0, z 1, z 2, ValueIdx.eq_ix3 z⟩
  have hu0 : u = 0 := Subsingleton.elim _ _
  subst hu0
  exact (staged_w n h h' f L _ i j).trans (fetched_w t o ho hh hu w i j)

/-- The assembled rows loaded whole. -/
theorem rows_read (h : ∀ a : Fin 2, (![0, 0] : Fin 2 → ℕ) a + S512x4096.size a ≤ S512x4096.size a) (a : S512x4096.Idx → Elt F .fp8e4m3) :
    View.readAt (Elt F) aM.view (Rect.unit (s := S512x4096) ![0, 0] S512x4096.size h).toLoadRect a = a := by
  funext z
  show a _ = a _
  refine congrArg a ?_
  funext b
  refine Fin.ext ?_
  fin_cases b
  · show 0 + 1 * (z 0).val = (z 0).val; omega
  · show 0 + 1 * (z 1).val = (z 1).val; omega

/-- The one word of a scale, loaded. -/
theorem scale_read0 (h : ∀ a : Fin 1, (![0] : Fin 1 → ℕ) a + S1.size a ≤ S1.size a) (hp) (g : S1.Idx → Elt F .f32) :
    View.readAt (Elt F) (win0_0.stage (cfg0.slots t0_0 0)).view (Rect.unit (s := S1) ![0] S1.size h).toLoadRect g (Shape.Idx.first hp) = g (ix1 0) :=
  congrArg g (funext fun a => Fin.ext (by fin_cases a; exact Nat.lt_one_iff.mp (Fin.isLt _)))
theorem scale_read1 (h : ∀ a : Fin 1, (![0] : Fin 1 → ℕ) a + S1.size a ≤ S1.size a) (hp) (g : S1.Idx → Elt F .f32) :
    View.readAt (Elt F) (win0_1.stage (cfg0.slots t0_0 1)).view (Rect.unit (s := S1) ![0] S1.size h).toLoadRect g (Shape.Idx.first hp) = g (ix1 0) :=
  congrArg g (funext fun a => Fin.ext (by fin_cases a; exact Nat.lt_one_iff.mp (Fin.isLt _)))

/-! ## The payloads, in one form -/

variable (s : F .f32) (w : Vec F S1x4096x512 .f32) (a : Vec F S512x4096 .fp8e4m3)

theorem pay_0 (u v : Elt F .f32) : k0_pay11 u v w a = k0_pay22 (k0_pay10 u v) w a := rfl
theorem pay_1 : k0_pay14 (k0_pay12 s w a) (k0_pay13 s w a) (FloatOps.ofBits .f32 1065353216#32) = k0_pay22 s w a := rfl
theorem pay_2 : k0_pay16 (k0_pay15 s w a) (FloatOps.ofBits .f32 3262119936#32) = k0_pay22 s w a := rfl
theorem pay_3 : k0_pay17 s w a = k0_pay22 s w a := rfl
theorem pay_4 : k0_pay19 (k0_pay18 s w a) = k0_pay22 s w a := rfl
theorem pay_5 : k0_pay21 s (k0_pay20 w a) = k0_pay22 s w a := rfl
theorem pay_6 (s : F .f32) (w : Vec F S1x4096x512 .f32) (a : Vec F S512x4096 .fp8e4m3) : k0_pay22 s w a = k0_pay22 s w a := rfl
theorem pay_7 : k0_pay25 (k0_pay23 s w a) (k0_pay24 s w a) (FloatOps.ofBits .f32 1065353216#32) = k0_pay22 s w a := rfl
theorem pay_8 : k0_pay27 s (k0_pay26 w a) = k0_pay22 s w a := rfl
theorem pay_9 : k0_pay29 (k0_pay28 s w a) = k0_pay22 s w a := rfl
theorem pay_10 : k0_pay33 (k0_pay30 s w a) (k0_pay31 s w a) k0_pay32 = k0_pay22 s w a := rfl
theorem pay_11 : k0_pay35 s (k0_pay34 w) a = k0_pay22 s w a := rfl
theorem pay_12 : k0_pay36 s w a = k0_pay22 s w a := rfl
theorem pay_13 : k0_pay37 s w a = k0_pay22 s w a := rfl
theorem pay_14 : k0_pay39 (k0_pay38 s w a) = k0_pay22 s w a := rfl
theorem pay_15 : shapeCast S1x512x512 (k0_pay40 s w a) shapeCasts_S512x512_S1x512x512 = k0_pay22 s w a := rfl

omit s w a

theorem pay_congr {s s' : F .f32} {w w' : Vec F S1x4096x512 .f32} {a a' : Vec F S512x4096 .fp8e4m3} (hs : s = s') (hw : w = w') (ha : a = a') :
    k0_pay22 s w a = k0_pay22 s' w' a' := by subst hs hw ha; rfl

/-! ## A stripe written -/

theorem oStripe_mem {n : ℕ} {h : ∀ a : Fin 2, (![0, n] : Fin 2 → ℕ) a + S512x512.size a ≤ S512x8192.size a} {x : S512x8192.Idx}
    (hx : x ∈ (oStripe n h).view.set) : ∃ i j : Fin 512, x = (oStripe n h).view.emb (ix2 i j) := by
  obtain ⟨z, -, rfl⟩ := Finset.mem_map.mp hx
  exact ⟨z 0, z 1, congrArg _ (ValueIdx.eq_ix2 z)⟩

/-- The block stored in a slot and copied out of it. -/
theorem copied_out (d : ℕ) (hd hd' : ∀ a : Fin 3, (![d, 0, 0] : Fin 3 → ℕ) a + S1x512x512.size a ≤ S2x512x512.size a)
    (fo : S2x512x512.Idx → Elt F .f32) (p : S1x512x512.Idx → Elt F .f32) (i j : Fin 512) :
    (ReadAs.same : ReadAs (Elt F) S512x512 .f32 S512x512 .f32).apply
        (View.read (Elt F) (oSlot d hd).view
          (View.write (Elt F) ((Memref.whole cc0_scratch4).access (Rect.unit (s := S2x512x512) ![d, 0, 0] S1x512x512.size hd')) fo p Finset.univ)) (ix2 i j)
      = p (ix3 (0 : Fin 1) i j) := by
  have h1 : (oSlot d hd).view.emb (ix2 i j) = (Rect.unit (s := S2x512x512) ![d, 0, 0] S1x512x512.size hd').emb (ix3 (0 : Fin 1) i j) := by
    rw [← reshape_512 squeezes_S1x512x512_S512x512.numel_eq]; rfl
  have h2 := View.write_emb_of_mem (v := (Memref.whole cc0_scratch4).access (Rect.unit (s := S2x512x512) ![d, 0, 0] S1x512x512.size hd'))
    (Val := Elt F) fo p (Finset.mem_univ (ix3 (0 : Fin 1) i j))
  have h3 : ∀ g : S2x512x512.Idx → Elt F .f32,
      (ReadAs.same : ReadAs (Elt F) S512x512 .f32 S512x512 .f32).apply (View.read (Elt F) (oSlot d hd).view g) (ix2 i j)
        = g ((Rect.unit (s := S2x512x512) ![d, 0, 0] S1x512x512.size hd').emb (ix3 (0 : Fin 1) i j)) := by
    intro g
    show g ((oSlot d hd).view.emb (ix2 i j)) = _
    rw [h1]
  exact (h3 _).trans h2

theorem product_at (t : Fin 16) (s : F .f32) (a : Vec F S512x4096 .fp8e4m3) (w : S4096x8192.Idx → Elt F .f32) (i j : Fin 512) :
    product s a w (ix2 i ⟨512 * t.val + j.val, by have := t.isLt; have := j.isLt; omega⟩) = k0_pay22 s (stripeOf w t) a (ix3 (0 : Fin 1) i j) := by
  have h : ∀ (t' : Fin 16) (j' : Fin 512), t' = t → j' = j →
      k0_pay22 s (stripeOf w t') a (ix3 (0 : Fin 1) i j') = k0_pay22 s (stripeOf w t) a (ix3 (0 : Fin 1) i j) := by rintro _ _ rfl rfl; rfl
  exact h _ _ (Fin.ext (by show (512 * t.val + j.val) / 512 = t.val; have := j.isLt; omega))
    (Fin.ext (by show (512 * t.val + j.val) % 512 = j.val; have := j.isLt; omega))

theorem oStripe_emb (t : Fin 16) (h : ∀ a : Fin 2, (![0, 512 * t.val] : Fin 2 → ℕ) a + S512x512.size a ≤ S512x8192.size a) (i j : Fin 512) :
    (oStripe (512 * t.val) h).view.emb (ix2 i j) = ix2 i ⟨512 * t.val + j.val, by have := t.isLt; have := j.isLt; omega⟩ := by
  funext b
  refine Fin.ext ?_
  fin_cases b
  · show 0 + 1 * i.val = i.val; omega
  · show 512 * t.val + 1 * j.val = 512 * t.val + j.val; omega

theorem stripe_holds (c : Dev nD) (t : Fin 16) (n : ℕ) (hn : n = 512 * t.val)
    (h : ∀ a : Fin 2, (![0, n] : Fin 2 → ℕ) a + S512x512.size a ≤ S512x8192.size a)
    (fr : S512x8192.Idx → Elt F .f32) (v : S512x512.Idx → Elt F .f32) (g : S512x8192.Idx → Elt F .f32)
    (hv : ∀ i j : Fin 512, v (ix2 i j) = g (ix2 i ⟨512 * t.val + j.val, by have := t.isLt; have := j.isLt; omega⟩)) :
    (rSl c n h ((oStripe n h).view.writes (Elt F) fr [⟨Rect.whole S512x512, v⟩]) : sProp 𝕄) ⊢ rSl c n h g := by
  subst hn
  refine Entails.of_eq (pointsTo_congr fun x hx => ?_)
  obtain ⟨i, j, rfl⟩ := oStripe_mem hx
  rw [← View.write_univ_eq_writes_whole]
  refine (View.write_emb_of_mem (v := (oStripe (512 * t.val) h).view) (Val := Elt F) fr v (Finset.mem_univ (ix2 i j))).trans ?_
  rw [oStripe_emb]
  exact hv i j

theorem stripe_done (c : Dev nD) (t : Fin 16) (n : ℕ) (hn : n = 512 * t.val)
    (h : ∀ a : Fin 2, (![0, n] : Fin 2 → ℕ) a + S512x512.size a ≤ S512x8192.size a)
    (d : ℕ) (hd hd' : ∀ a : Fin 3, (![d, 0, 0] : Fin 3 → ℕ) a + S1x512x512.size a ≤ S2x512x512.size a)
    (fr : S512x8192.Idx → Elt F .f32) (fo : S2x512x512.Idx → Elt F .f32) (p : S1x512x512.Idx → Elt F .f32)
    (s : F .f32) (a : Vec F S512x4096 .fp8e4m3) (w : S4096x8192.Idx → Elt F .f32)
    (hp : p = k0_pay22 s (stripeOf w t) a) :
    (rSl c n h ((oStripe n h).view.writes (Elt F) fr [⟨Rect.whole S512x512, (ReadAs.same : ReadAs (Elt F) S512x512 .f32 S512x512 .f32).apply
        (View.read (Elt F) (oSlot d hd).view
          (View.write (Elt F) ((Memref.whole cc0_scratch4).access (Rect.unit (s := S2x512x512) ![d, 0, 0] S1x512x512.size hd')) fo p Finset.univ))⟩]) : sProp 𝕄)
    ⊢ rSl c n h (product s a w) :=
  stripe_holds c t n hn h fr _ _ fun i j => (copied_out d hd hd' fo p i j).trans ((congrFun hp _).trans (product_at t s a w i j).symm)

end Cert.Exchange
-- ==== Proof.Walk.lean ====
/-
# The walk through one device's body

From everything the device holds when the body starts, through its copies, its handshake and its waits, to everything it
holds when the body ends: the result's sixteen stripes at the product, every other buffer whole again, every counter at zero.
-/
module

public import proofs.«01_k».proof.Proof.Stripes

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic Idealize.ShloMosaic.Transfers
open Idealize.ShloMosaic.ValueIdx (ix1 ix2 ix3)

variable {F : FTy → Type} [FloatOps F]
local notation "𝕄" => MT nD τ sig Unit (Elt F) ℕ UU ℕ
variable (m : (ℓ : Loc nD τ sig) → Buf (Elt F) ℓ)

variable {κ : Dev nD × Fin 16 → ℕ}

/-! ## The whole pieces -/

abbrev aWh (c : Dev nD) (f : Buf (Elt F) ((c : Thread nD τ).loc cc0_scratch2)) : sProp 𝕄 := aM.view.loc (c : Thread nD τ) ↦{fullShare} f
abbrev sc0 (c : Dev nD) (g : S1.Idx → Elt F .f32) : sProp 𝕄 :=
  (win0_0.stage (cfg0.slots t0_0 0)).view.loc (c : Thread nD τ) ↦[(win0_0.stage (cfg0.slots t0_0 0)).view.set]{fullShare} g
abbrev sc1 (c : Dev nD) (g : S1.Idx → Elt F .f32) : sProp 𝕄 :=
  (win0_1.stage (cfg0.slots t0_0 1)).view.loc (c : Thread nD τ) ↦[(win0_1.stage (cfg0.slots t0_0 1)).view.set]{fullShare} g

/-- What the device holds when its body starts. -/
abbrev before (κ : Dev nD × Fin 16 → ℕ) (c : Dev nD) (g0 g1 : S1.Idx → Elt F .f32) (fo : Buf (Elt F) ((c : Thread nD τ).loc cc0_scratch4))
    (fr : Buf (Elt F) ((c : Thread nD τ).loc main_v1)) (W : Waits sig Unit) (fx : Buf (Elt F) ((c : Thread nD τ).loc cc0_scratch0))
    (fw : Buf (Elt F) ((c : Thread nD τ).loc cc0_scratch3)) (fa : Buf (Elt F) ((c : Thread nD τ).loc cc0_scratch2))
    (fq : Buf (Elt F) ((c : Thread nD τ).loc cc0_scratch1)) (w : Buf (Elt F) ((c : Thread nD τ).loc main_arg1)) : sProp 𝕄 :=
    iprop(records m κ ∗ levAts L lv ∗ owes (c : Thread nD τ) (owedB c 7) W
      ∗ cred (tallyAt (barCell c) () 7) ∗ atPos ER (barCell c) 0 ∅ 0
      ∗ (dutyTok ER (barCell (peer c 1)) 0 c ∗ dutyTok ER (barCell (peer c 2)) 0 c ∗ dutyTok ER (barCell (peer c 3)) 0 c ∗ dutyTok ER (barCell (peer c 4)) 0 c ∗ dutyTok ER (barCell (peer c 5)) 0 c ∗ dutyTok ER (barCell (peer c 6)) 0 c ∗ dutyTok ER (barCell (peer c 7)) 0 c)
      ∗ ((∃ f, colPts c (peer c 1) f) ∗ (∃ f, colPts c (peer c 2) f) ∗ (∃ f, colPts c (peer c 3) f) ∗ (∃ f, colPts c (peer c 4) f) ∗ (∃ f, colPts c (peer c 5) f) ∗ (∃ f, colPts c (peer c 6) f) ∗ (∃ f, colPts c (peer c 7) f))
      ∗ (xSl c 0 (slot_inb 0) fx ∗ xSl c 1 (slot_inb 1) fx ∗ xSl c 2 (slot_inb 2) fx ∗ xSl c 3 (slot_inb 3) fx ∗ xSl c 4 (slot_inb 4) fx ∗ xSl c 5 (slot_inb 5) fx ∗ xSl c 6 (slot_inb 6) fx ∗ xSl c 7 (slot_inb 7) fx)
      ∗ (wSl c 0 (wslot_inb 0) fw ∗ wSl c 1 (wslot_inb 1) fw ∗ wSl c 2 (wslot_inb 2) fw ∗ wSl c 3 (wslot_inb 3) fw ∗ wSl c 4 (wslot_inb 4) fw)
      ∗ (xTok c 2 (xIn m c) ∗ xTok c 3 (xIn m c) ∗ xTok c 4 (xIn m c) ∗ xTok c 5 (xIn m c) ∗ xTok c 6 (xIn m c) ∗ xTok c 7 (xIn m c) ∗ xTok c 8 (xIn m c) ∗ xTok c 9 (xIn m c))
      ∗ (wTok c 25 w ∗ wTok c 26 w ∗ wTok c 27 w ∗ wTok c 28 w ∗ wTok c 29 w)
      ∗ (lsem c 2 ∗ lsem c 3 ∗ lsem c 4 ∗ lsem c 5 ∗ lsem c 6 ∗ lsem c 7 ∗ lsem c 8 ∗ lsem c 9)
      ∗ (lsem c 25 ∗ lsem c 26 ∗ lsem c 27 ∗ lsem c 28 ∗ lsem c 29)
      ∗ (aSl c fa)
      ∗ (qSl c 1 (slot_inb 1) fq ∗ qSl c 2 (slot_inb 2) fq ∗ qSl c 3 (slot_inb 3) fq ∗ qSl c 4 (slot_inb 4) fq ∗ qSl c 5 (slot_inb 5) fq ∗ qSl c 6 (slot_inb 6) fq ∗ qSl c 7 (slot_inb 7) fq)
      ∗ (dutyTok ER (sendCell c 1) 0 1 ∗ dutyTok ER (sendCell c 2) 0 2 ∗ dutyTok ER (sendCell c 3) 0 3 ∗ dutyTok ER (sendCell c 4) 0 4 ∗ dutyTok ER (sendCell c 5) 0 5 ∗ dutyTok ER (sendCell c 6) 0 6 ∗ dutyTok ER (sendCell c 7) 0 7)
      ∗ (dutyTok ER (recvCell (peer c 1) c) 0 c ∗ dutyTok ER (recvCell (peer c 2) c) 0 c ∗ dutyTok ER (recvCell (peer c 3) c) 0 c ∗ dutyTok ER (recvCell (peer c 4) c) 0 c ∗ dutyTok ER (recvCell (peer c 5) c) 0 c ∗ dutyTok ER (recvCell (peer c 6) c) 0 c ∗ dutyTok ER (recvCell (peer c 7) c) 0 c)
      ∗ (cred (tallyAt (recvCell c (peer c 1)) () N) ∗ cred (tallyAt (recvCell c (peer c 2)) () N) ∗ cred (tallyAt (recvCell c (peer c 3)) () N) ∗ cred (tallyAt (recvCell c (peer c 4)) () N) ∗ cred (tallyAt (recvCell c (peer c 5)) () N) ∗ cred (tallyAt (recvCell c (peer c 6)) () N) ∗ cred (tallyAt (recvCell c (peer c 7)) () N))
      ∗ (atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0)
      ∗ (atPos ER (recvCell c (peer c 1)) 0 ∅ 0 ∗ atPos ER (recvCell c (peer c 2)) 0 ∅ 0 ∗ atPos ER (recvCell c (peer c 3)) 0 ∅ 0 ∗ atPos ER (recvCell c (peer c 4)) 0 ∅ 0 ∗ atPos ER (recvCell c (peer c 5)) 0 ∅ 0 ∗ atPos ER (recvCell c (peer c 6)) 0 ∅ 0 ∗ atPos ER (recvCell c (peer c 7)) 0 ∅ 0)
      ∗ (oSl c 0 (oslot_inb 0) fo ∗ oSl c 1 (oslot_inb 1) fo)
      ∗ (rSl c 0 (stripe_inb 0) fr ∗ rSl c 512 (stripe_inb 1) fr ∗ rSl c 1024 (stripe_inb 2) fr ∗ rSl c 1536 (stripe_inb 3) fr ∗ rSl c 2048 (stripe_inb 4) fr ∗ rSl c 2560 (stripe_inb 5) fr ∗ rSl c 3072 (stripe_inb 6) fr ∗ rSl c 3584 (stripe_inb 7) fr ∗ rSl c 4096 (stripe_inb 8) fr ∗ rSl c 4608 (stripe_inb 9) fr ∗ rSl c 5120 (stripe_inb 10) fr ∗ rSl c 5632 (stripe_inb 11) fr ∗ rSl c 6144 (stripe_inb 12) fr ∗ rSl c 6656 (stripe_inb 13) fr ∗ rSl c 7168 (stripe_inb 14) fr ∗ rSl c 7680 (stripe_inb 15) fr)
      ∗ (lsem c 30 ∗ lsem c 31)
      ∗ (sc0 c g0 ∗ sc1 c g1))

/-- What it holds when its body ends. -/
abbrev after (c : Dev nD) (g0 g1 : S1.Idx → Elt F .f32) (w : Buf (Elt F) ((c : Thread nD τ).loc main_arg1)) : sProp 𝕄 :=
    iprop((∃ W', owes (c : Thread nD τ) 0 W')
      ∗ semVal (barCell c) 0
      ∗ (idle (recvCell c (peer c 1)) ∗ idle (recvCell c (peer c 2)) ∗ idle (recvCell c (peer c 3)) ∗ idle (recvCell c (peer c 4)) ∗ idle (recvCell c (peer c 5)) ∗ idle (recvCell c (peer c 6)) ∗ idle (recvCell c (peer c 7)))
      ∗ (idle (sendCell c 1) ∗ idle (sendCell c 2) ∗ idle (sendCell c 3) ∗ idle (sendCell c 4) ∗ idle (sendCell c 5) ∗ idle (sendCell c 6) ∗ idle (sendCell c 7))
      ∗ (lsem c 2 ∗ lsem c 3 ∗ lsem c 4 ∗ lsem c 5 ∗ lsem c 6 ∗ lsem c 7 ∗ lsem c 8 ∗ lsem c 9)
      ∗ (lsem c 25 ∗ lsem c 26 ∗ lsem c 27 ∗ lsem c 28 ∗ lsem c 29)
      ∗ (lsem c 30 ∗ lsem c 31)
      ∗ (xTok c 2 (xIn m c) ∗ xTok c 3 (xIn m c) ∗ xTok c 4 (xIn m c) ∗ xTok c 5 (xIn m c) ∗ xTok c 6 (xIn m c) ∗ xTok c 7 (xIn m c) ∗ xTok c 8 (xIn m c) ∗ xTok c 9 (xIn m c))
      ∗ (wTok c 25 w ∗ wTok c 26 w ∗ wTok c 27 w ∗ wTok c 28 w ∗ wTok c 29 w)
      ∗ ((∃ f, xSl c 0 (slot_inb 0) f) ∗ (∃ f, xSl c 1 (slot_inb 1) f) ∗ (∃ f, xSl c 2 (slot_inb 2) f) ∗ (∃ f, xSl c 3 (slot_inb 3) f) ∗ (∃ f, xSl c 4 (slot_inb 4) f) ∗ (∃ f, xSl c 5 (slot_inb 5) f) ∗ (∃ f, xSl c 6 (slot_inb 6) f) ∗ (∃ f, xSl c 7 (slot_inb 7) f))
      ∗ ((∃ f, wSl c 0 (wslot_inb 0) f) ∗ (∃ f, wSl c 1 (wslot_inb 1) f) ∗ (∃ f, wSl c 2 (wslot_inb 2) f) ∗ (∃ f, wSl c 3 (wslot_inb 3) f) ∗ (∃ f, wSl c 4 (wslot_inb 4) f))
      ∗ (∃ f, aWh c f)
      ∗ (slotPts c 1 (blocks m c) ∗ slotPts c 2 (blocks m c) ∗ slotPts c 3 (blocks m c) ∗ slotPts c 4 (blocks m c) ∗ slotPts c 5 (blocks m c) ∗ slotPts c 6 (blocks m c) ∗ slotPts c 7 (blocks m c))
      ∗ ((∃ f, oSl c 0 (oslot_inb 0) f) ∗ (∃ f, oSl c 1 (oslot_inb 1) f))
      ∗ (rSl c 0 (stripe_inb 0) (product (k0_pay10 (g0 (ix1 0)) (g1 (ix1 0))) (rows m c) w) ∗ rSl c 512 (stripe_inb 1) (product (k0_pay10 (g0 (ix1 0)) (g1 (ix1 0))) (rows m c) w) ∗ rSl c 1024 (stripe_inb 2) (product (k0_pay10 (g0 (ix1 0)) (g1 (ix1 0))) (rows m c) w) ∗ rSl c 1536 (stripe_inb 3) (product (k0_pay10 (g0 (ix1 0)) (g1 (ix1 0))) (rows m c) w) ∗ rSl c 2048 (stripe_inb 4) (product (k0_pay10 (g0 (ix1 0)) (g1 (ix1 0))) (rows m c) w) ∗ rSl c 2560 (stripe_inb 5) (product (k0_pay10 (g0 (ix1 0)) (g1 (ix1 0))) (rows m c) w) ∗ rSl c 3072 (stripe_inb 6) (product (k0_pay10 (g0 (ix1 0)) (g1 (ix1 0))) (rows m c) w) ∗ rSl c 3584 (stripe_inb 7) (product (k0_pay10 (g0 (ix1 0)) (g1 (ix1 0))) (rows m c) w) ∗ rSl c 4096 (stripe_inb 8) (product (k0_pay10 (g0 (ix1 0)) (g1 (ix1 0))) (rows m c) w) ∗ rSl c 4608 (stripe_inb 9) (product (k0_pay10 (g0 (ix1 0)) (g1 (ix1 0))) (rows m c) w) ∗ rSl c 5120 (stripe_inb 10) (product (k0_pay10 (g0 (ix1 0)) (g1 (ix1 0))) (rows m c) w) ∗ rSl c 5632 (stripe_inb 11) (product (k0_pay10 (g0 (ix1 0)) (g1 (ix1 0))) (rows m c) w) ∗ rSl c 6144 (stripe_inb 12) (product (k0_pay10 (g0 (ix1 0)) (g1 (ix1 0))) (rows m c) w) ∗ rSl c 6656 (stripe_inb 13) (product (k0_pay10 (g0 (ix1 0)) (g1 (ix1 0))) (rows m c) w) ∗ rSl c 7168 (stripe_inb 14) (product (k0_pay10 (g0 (ix1 0)) (g1 (ix1 0))) (rows m c) w) ∗ rSl c 7680 (stripe_inb 15) (product (k0_pay10 (g0 (ix1 0)) (g1 (ix1 0))) (rows m c) w))
      ∗ (sc0 c g0 ∗ sc1 c g1))

set_option maxHeartbeats 8000000 in
/-- The body, run from start to end. -/
theorem walk (c : Dev nD) (g0 g1 : S1.Idx → Elt F .f32) (fo : Buf (Elt F) ((c : Thread nD τ).loc cc0_scratch4))
    (fr : Buf (Elt F) ((c : Thread nD τ).loc main_v1)) (W : Waits sig Unit) (fx : Buf (Elt F) ((c : Thread nD τ).loc cc0_scratch0))
    (fw : Buf (Elt F) ((c : Thread nD τ).loc cc0_scratch3)) (fa : Buf (Elt F) ((c : Thread nD τ).loc cc0_scratch2))
    (fq : Buf (Elt F) ((c : Thread nD τ).loc cc0_scratch1)) (w : Buf (Elt F) ((c : Thread nD τ).loc main_arg1)) :
    before m κ c g0 g1 fo fr W fx fw fa fq w
    ⊢ wp frame (wpE (defs₀ (F := F)) 𝒱₀ (c : Thread nD τ) none) Set.univ (bodyAt0 (F := F) t0_0) fun _ => after m c g0 g1 w := by
  rw [bodyAt0, cc0_body_eq_skeleton, cc0_body_skel]
  have hw2 : ∀ n, (levAts L lv : sProp 𝕄) ⊢ MayWait (c : Thread nD τ) (.dma ⟨2, by decide⟩) () (owedR c n) := fun n => mayWait_R c n _ (by decide)
  have hw3 : ∀ n, (levAts L lv : sProp 𝕄) ⊢ MayWait (c : Thread nD τ) (.dma ⟨3, by decide⟩) () (owedR c n) := fun n => mayWait_R c n _ (by decide)
  have hw4 : ∀ n, (levAts L lv : sProp 𝕄) ⊢ MayWait (c : Thread nD τ) (.dma ⟨4, by decide⟩) () (owedR c n) := fun n => mayWait_R c n _ (by decide)
  have hw5 : ∀ n, (levAts L lv : sProp 𝕄) ⊢ MayWait (c : Thread nD τ) (.dma ⟨5, by decide⟩) () (owedR c n) := fun n => mayWait_R c n _ (by decide)
  have hw6 : ∀ n, (levAts L lv : sProp 𝕄) ⊢ MayWait (c : Thread nD τ) (.dma ⟨6, by decide⟩) () (owedR c n) := fun n => mayWait_R c n _ (by decide)
  have hw7 : ∀ n, (levAts L lv : sProp 𝕄) ⊢ MayWait (c : Thread nD τ) (.dma ⟨7, by decide⟩) () (owedR c n) := fun n => mayWait_R c n _ (by decide)
  have hw8 : ∀ n, (levAts L lv : sProp 𝕄) ⊢ MayWait (c : Thread nD τ) (.dma ⟨8, by decide⟩) () (owedR c n) := fun n => mayWait_R c n _ (by decide)
  have hw9 : ∀ n, (levAts L lv : sProp 𝕄) ⊢ MayWait (c : Thread nD τ) (.dma ⟨9, by decide⟩) () (owedR c n) := fun n => mayWait_R c n _ (by decide)
  have hz : ∀ q : SemLoc sig, (levAts L lv : sProp 𝕄) ⊢ MayWait (c : Thread nD τ) q () 0 := fun q => mayWait_free c q
  iintro ⟨#HR, #Hlev, HO, HcB, HaB, ⟨TB1, TB2, TB3, TB4, TB5, TB6, TB7⟩, ⟨AC1, AC2, AC3, AC4, AC5, AC6, AC7⟩, ⟨V0, V1, V2, V3, V4, V5, V6, V7⟩, ⟨B0, B1, B2, B3, B4⟩, ⟨X2, X3, X4, X5, X6, X7, X8, X9⟩, ⟨W25, W26, W27, W28, W29⟩, ⟨S2, S3, S4, S5, S6, S7, S8, S9⟩, ⟨T25, T26, T27, T28, T29⟩, HA, ⟨Y1, Y2, Y3, Y4, Y5, Y6, Y7⟩, ⟨TS1, TS2, TS3, TS4, TS5, TS6, TS7⟩, ⟨TR1, TR2, TR3, TR4, TR5, TR6, TR7⟩, ⟨CR1, CR2, CR3, CR4, CR5, CR6, CR7⟩, ⟨PS1, PS2, PS3, PS4, PS5, PS6, PS7⟩, ⟨PR1, PR2, PR3, PR4, PR5, PR6, PR7⟩, ⟨O0, O1⟩, ⟨R0, R1, R2, R3, R4, R5, R6, R7, R8, R9, R10, R11, R12, R13, R14, R15⟩, ⟨U30, U31⟩, ⟨G0, G1⟩⟩
  sl_exec
  iapply (signal_step (m := m) (κ := κ) c 1 (by decide) (dev := ⟨k0_dev1 c, k0_dev1_lt c⟩) (Fin.ext (k0_dev1_eq c)) rfl (O₀ := owedB c 7) (O := owedB c 6) rfl) $$ [HO TB1 AC1]
  · isplitr; · iexact HR
    isplitl [HO]; · iexact HO
    isplitl [TB1]; · iexact TB1
    iexact AC1
  iintro HO
  sl_exec
  iapply (signal_step (m := m) (κ := κ) c 2 (by decide) (dev := ⟨k0_dev2 c, k0_dev2_lt c⟩) (Fin.ext (k0_dev2_eq c)) rfl (O₀ := owedB c 6) (O := owedB c 5) rfl) $$ [HO TB2 AC2]
  · isplitr; · iexact HR
    isplitl [HO]; · iexact HO
    isplitl [TB2]; · iexact TB2
    iexact AC2
  iintro HO
  sl_exec
  iapply (signal_step (m := m) (κ := κ) c 3 (by decide) (dev := ⟨k0_dev3 c, k0_dev3_lt c⟩) (Fin.ext (k0_dev3_eq c)) rfl (O₀ := owedB c 5) (O := owedB c 4) rfl) $$ [HO TB3 AC3]
  · isplitr; · iexact HR
    isplitl [HO]; · iexact HO
    isplitl [TB3]; · iexact TB3
    iexact AC3
  iintro HO
  sl_exec
  iapply (signal_step (m := m) (κ := κ) c 4 (by decide) (dev := ⟨k0_dev4 c, k0_dev4_lt c⟩) (Fin.ext (k0_dev4_eq c)) rfl (O₀ := owedB c 4) (O := owedB c 3) rfl) $$ [HO TB4 AC4]
  · isplitr; · iexact HR
    isplitl [HO]; · iexact HO
    isplitl [TB4]; · iexact TB4
    iexact AC4
  iintro HO
  sl_exec
  iapply (signal_step (m := m) (κ := κ) c 5 (by decide) (dev := ⟨k0_dev5 c, k0_dev5_lt c⟩) (Fin.ext (k0_dev5_eq c)) rfl (O₀ := owedB c 3) (O := owedB c 2) rfl) $$ [HO TB5 AC5]
  · isplitr; · iexact HR
    isplitl [HO]; · iexact HO
    isplitl [TB5]; · iexact TB5
    iexact AC5
  iintro HO
  sl_exec
  iapply (signal_step (m := m) (κ := κ) c 6 (by decide) (dev := ⟨k0_dev6 c, k0_dev6_lt c⟩) (Fin.ext (k0_dev6_eq c)) rfl (O₀ := owedB c 2) (O := owedB c 1) rfl) $$ [HO TB6 AC6]
  · isplitr; · iexact HR
    isplitl [HO]; · iexact HO
    isplitl [TB6]; · iexact TB6
    iexact AC6
  iintro HO
  sl_exec
  iapply (signal_step (m := m) (κ := κ) c 7 (by decide) (dev := ⟨k0_dev7 c, k0_dev7_lt c⟩) (Fin.ext (k0_dev7_eq c)) rfl (O₀ := owedB c 1) (O := owedB c 0) rfl) $$ [HO TB7 AC7]
  · isplitr; · iexact HR
    isplitl [HO]; · iexact HO
    isplitl [TB7]; · iexact TB7
    iexact AC7
  iintro HO
  sl_exec

  iapply (barrier_step (m := m) (κ := κ) c 7 rfl) $$ [HO HcB HaB]
  · isplitr; · iexact HR
    isplitr; · iexact Hlev
    isplitl [HO]; · iexact HO
    isplitl [HcB]; · iexact HcB
    iexact HaB
  iintro ⟨HO, ZB, BP1, BP2, BP3, BP4, BP5, BP6, BP7⟩
  sl_exec
  iapply (send_step (m := m) (κ := κ) c 1 (by decide) (dev := ⟨k0_dev8 c, k0_dev8_lt c⟩) (Fin.ext (k0_dev8_eq c)) rfl (col_eq c _ (k0_off4_eq c) _ _)
    (congrArg SemLoc.dma (sendSem_eq 1 0 rfl _)) (congrArg SemLoc.dma (recvSem_eq c _ (k0_off3_eq c) _)) (O₀ := owedR c 7) (O := owedR c 6) rfl) $$ [HO TS1 TR1 Y1 BP1]
  · isplitr; · iexact HR
    isplitl [HO]; · iexact HO
    isplitl [TS1]; · iexact TS1
    isplitl [TR1]; · iexact TR1
    isplitl [Y1]
    · iapply (slot_stored (m := m) c 1 1 rfl _ _ fq _ fun i j => (pay2_at _ i j).trans
        (congrArg narrow ((staged_x 1 _ _ _ i j).trans (fetched_x c 1 _ (k0_off1_eq c 1) _ _ (xIn m c) i j)))) $$ [Y1]
      iexact Y1
    iexact BP1
  iintro ⟨HO, CS1⟩
  sl_exec
  iapply (send_step (m := m) (κ := κ) c 2 (by decide) (dev := ⟨k0_dev9 c, k0_dev9_lt c⟩) (Fin.ext (k0_dev9_eq c)) rfl (col_eq c _ (k0_off4_eq c) _ _)
    (congrArg SemLoc.dma (sendSem_eq 2 1 rfl _)) (congrArg SemLoc.dma (recvSem_eq c _ (k0_off3_eq c) _)) (O₀ := owedR c 6) (O := owedR c 5) rfl) $$ [HO TS2 TR2 Y2 BP2]
  · isplitr; · iexact HR
    isplitl [HO]; · iexact HO
    isplitl [TS2]; · iexact TS2
    isplitl [TR2]; · iexact TR2
    isplitl [Y2]
    · iapply (slot_stored (m := m) c 2 2 rfl _ _ fq _ fun i j => (pay2_at _ i j).trans
        (congrArg narrow ((staged_x 2 _ _ _ i j).trans (fetched_x c 2 _ (k0_off1_eq c 2) _ _ (xIn m c) i j)))) $$ [Y2]
      iexact Y2
    iexact BP2
  iintro ⟨HO, CS2⟩
  sl_exec
  iapply (send_step (m := m) (κ := κ) c 3 (by decide) (dev := ⟨k0_dev10 c, k0_dev10_lt c⟩) (Fin.ext (k0_dev10_eq c)) rfl (col_eq c _ (k0_off4_eq c) _ _)
    (congrArg SemLoc.dma (sendSem_eq 3 2 rfl _)) (congrArg SemLoc.dma (recvSem_eq c _ (k0_off3_eq c) _)) (O₀ := owedR c 5) (O := owedR c 4) rfl) $$ [HO TS3 TR3 Y3 BP3]
  · isplitr; · iexact HR
    isplitl [HO]; · iexact HO
    isplitl [TS3]; · iexact TS3
    isplitl [TR3]; · iexact TR3
    isplitl [Y3]
    · iapply (slot_stored (m := m) c 3 3 rfl _ _ fq _ fun i j => (pay2_at _ i j).trans
        (congrArg narrow ((staged_x 3 _ _ _ i j).trans (fetched_x c 3 _ (k0_off1_eq c 3) _ _ (xIn m c) i j)))) $$ [Y3]
      iexact Y3
    iexact BP3
  iintro ⟨HO, CS3⟩
  sl_exec
  iapply (send_step (m := m) (κ := κ) c 4 (by decide) (dev := ⟨k0_dev11 c, k0_dev11_lt c⟩) (Fin.ext (k0_dev11_eq c)) rfl (col_eq c _ (k0_off4_eq c) _ _)
    (congrArg SemLoc.dma (sendSem_eq 4 3 rfl _)) (congrArg SemLoc.dma (recvSem_eq c _ (k0_off3_eq c) _)) (O₀ := owedR c 4) (O := owedR c 3) rfl) $$ [HO TS4 TR4 Y4 BP4]
  · isplitr; · iexact HR
    isplitl [HO]; · iexact HO
    isplitl [TS4]; · iexact TS4
    isplitl [TR4]; · iexact TR4
    isplitl [Y4]
    · iapply (slot_stored (m := m) c 4 4 rfl _ _ fq _ fun i j => (pay2_at _ i j).trans
        (congrArg narrow ((staged_x 4 _ _ _ i j).trans (fetched_x c 4 _ (k0_off1_eq c 4) _ _ (xIn m c) i j)))) $$ [Y4]
      iexact Y4
    iexact BP4
  iintro ⟨HO, CS4⟩
  sl_exec
  iapply (send_step (m := m) (κ := κ) c 5 (by decide) (dev := ⟨k0_dev12 c, k0_dev12_lt c⟩) (Fin.ext (k0_dev12_eq c)) rfl (col_eq c _ (k0_off4_eq c) _ _)
    (congrArg SemLoc.dma (sendSem_eq 5 4 rfl _)) (congrArg SemLoc.dma (recvSem_eq c _ (k0_off3_eq c) _)) (O₀ := owedR c 3) (O := owedR c 2) rfl) $$ [HO TS5 TR5 Y5 BP5]
  · isplitr; · iexact HR
    isplitl [HO]; · iexact HO
    isplitl [TS5]; · iexact TS5
    isplitl [TR5]; · iexact TR5
    isplitl [Y5]
    · iapply (slot_stored (m := m) c 5 5 rfl _ _ fq _ fun i j => (pay2_at _ i j).trans
        (congrArg narrow ((staged_x 5 _ _ _ i j).trans (fetched_x c 5 _ (k0_off1_eq c 5) _ _ (xIn m c) i j)))) $$ [Y5]
      iexact Y5
    iexact BP5
  iintro ⟨HO, CS5⟩
  sl_exec
  iapply (send_step (m := m) (κ := κ) c 6 (by decide) (dev := ⟨k0_dev13 c, k0_dev13_lt c⟩) (Fin.ext (k0_dev13_eq c)) rfl (col_eq c _ (k0_off4_eq c) _ _)
    (congrArg SemLoc.dma (sendSem_eq 6 5 rfl _)) (congrArg SemLoc.dma (recvSem_eq c _ (k0_off3_eq c) _)) (O₀ := owedR c 2) (O := owedR c 1) rfl) $$ [HO TS6 TR6 Y6 BP6]
  · isplitr; · iexact HR
    isplitl [HO]; · iexact HO
    isplitl [TS6]; · iexact TS6
    isplitl [TR6]; · iexact TR6
    isplitl [Y6]
    · iapply (slot_stored (m := m) c 6 6 rfl _ _ fq _ fun i j => (pay2_at _ i j).trans
        (congrArg narrow ((staged_x 6 _ _ _ i j).trans (fetched_x c 6 _ (k0_off1_eq c 6) _ _ (xIn m c) i j)))) $$ [Y6]
      iexact Y6
    iexact BP6
  iintro ⟨HO, CS6⟩
  sl_exec
  iapply (send_step (m := m) (κ := κ) c 7 (by decide) (dev := ⟨k0_dev14 c, k0_dev14_lt c⟩) (Fin.ext (k0_dev14_eq c)) rfl (col_eq c _ (k0_off4_eq c) _ _)
    (congrArg SemLoc.dma (sendSem_eq 7 6 rfl _)) (congrArg SemLoc.dma (recvSem_eq c _ (k0_off3_eq c) _)) (O₀ := owedR c 1) (O := owedR c 0) rfl) $$ [HO TS7 TR7 Y7 BP7]
  · isplitr; · iexact HR
    isplitl [HO]; · iexact HO
    isplitl [TS7]; · iexact TS7
    isplitl [TR7]; · iexact TR7
    isplitl [Y7]
    · iapply (slot_stored (m := m) c 7 7 rfl _ _ fq _ fun i j => (pay2_at _ i j).trans
        (congrArg narrow ((staged_x 7 _ _ _ i j).trans (fetched_x c 7 _ (k0_off1_eq c 7) _ _ (xIn m c) i j)))) $$ [Y7]
      iexact Y7
    iexact BP7
  iintro ⟨HO, CS7⟩
  sl_exec
  iapply (recv_wait (m := m) (κ := κ) c (peer c 1) (peer_ne c 1 (by decide)) (recvSem_eq (peer c 1) _ (k0_off5_eq c 0) _)) $$ [HO CR1 PR1]
  · isplitr; · iexact HR
    isplitl [HO]; · iexact HO
    isplitl [CR1]; · iexact CR1
    iexact PR1
  iintro ⟨HO, ZR1, A1⟩
  sl_exec
  iapply (recv_wait (m := m) (κ := κ) c (peer c 2) (peer_ne c 2 (by decide)) (recvSem_eq (peer c 2) _ (k0_off5_eq c 1) _)) $$ [HO CR2 PR2]
  · isplitr; · iexact HR
    isplitl [HO]; · iexact HO
    isplitl [CR2]; · iexact CR2
    iexact PR2
  iintro ⟨HO, ZR2, A2⟩
  sl_exec
  iapply (recv_wait (m := m) (κ := κ) c (peer c 3) (peer_ne c 3 (by decide)) (recvSem_eq (peer c 3) _ (k0_off5_eq c 2) _)) $$ [HO CR3 PR3]
  · isplitr; · iexact HR
    isplitl [HO]; · iexact HO
    isplitl [CR3]; · iexact CR3
    iexact PR3
  iintro ⟨HO, ZR3, A3⟩
  sl_exec
  iapply (recv_wait (m := m) (κ := κ) c (peer c 4) (peer_ne c 4 (by decide)) (recvSem_eq (peer c 4) _ (k0_off5_eq c 3) _)) $$ [HO CR4 PR4]
  · isplitr; · iexact HR
    isplitl [HO]; · iexact HO
    isplitl [CR4]; · iexact CR4
    iexact PR4
  iintro ⟨HO, ZR4, A4⟩
  sl_exec
  iapply (recv_wait (m := m) (κ := κ) c (peer c 5) (peer_ne c 5 (by decide)) (recvSem_eq (peer c 5) _ (k0_off5_eq c 4) _)) $$ [HO CR5 PR5]
  · isplitr; · iexact HR
    isplitl [HO]; · iexact HO
    isplitl [CR5]; · iexact CR5
    iexact PR5
  iintro ⟨HO, ZR5, A5⟩
  sl_exec
  iapply (recv_wait (m := m) (κ := κ) c (peer c 6) (peer_ne c 6 (by decide)) (recvSem_eq (peer c 6) _ (k0_off5_eq c 5) _)) $$ [HO CR6 PR6]
  · isplitr; · iexact HR
    isplitl [HO]; · iexact HO
    isplitl [CR6]; · iexact CR6
    iexact PR6
  iintro ⟨HO, ZR6, A6⟩
  sl_exec
  iapply (recv_wait (m := m) (κ := κ) c (peer c 7) (peer_ne c 7 (by decide)) (recvSem_eq (peer c 7) _ (k0_off5_eq c 6) _)) $$ [HO CR7 PR7]
  · isplitr; · iexact HR
    isplitl [HO]; · iexact HO
    isplitl [CR7]; · iexact CR7
    iexact PR7
  iintro ⟨HO, ZR7, A7⟩

  have hjoin : (iprop(colPts c c (rows m c) ∗ colPts c (peer c 1) (rows m c) ∗ colPts c (peer c 2) (rows m c) ∗ colPts c (peer c 3) (rows m c)
      ∗ colPts c (peer c 4) (rows m c) ∗ colPts c (peer c 5) (rows m c) ∗ colPts c (peer c 6) (rows m c) ∗ colPts c (peer c 7) (rows m c)) : sProp 𝕄)
      ⊢ aWh c (rows m c) := by
    have h := (a_split c (rows m c)).symm
    rw [peer_zero] at h
    exact Entails.of_eq h
  ihave HA := (own_stored (m := m) c _ (k0_off2_eq c) _ fa _ fun i j => (pay1_at _ i j).trans
        (congrArg narrow ((staged_x 0 _ _ _ i j).trans (fetched_x c 0 _ (k0_off1_eq c 0) _ _ (xIn m c) i j)))) $$ [HA]
  · iexact HA
  ihave HA := hjoin $$ [HA A1 A2 A3 A4 A5 A6 A7]
  · isplitl [HA]; · iexact HA
    isplitl [A1]; · iexact A1
    isplitl [A2]; · iexact A2
    isplitl [A3]; · iexact A3
    isplitl [A4]; · iexact A4
    isplitl [A5]; · iexact A5
    isplitl [A6]; · iexact A6
    iexact A7
  sl_exec
  iapply (sent_wait (m := m) (κ := κ) c 1 (by decide) (sendSem_eq 1 0 rfl _)) $$ [HO CS1 PS1]
  · isplitr; · iexact HR
    isplitl [HO]; · iexact HO
    isplitl [CS1]; · iexact CS1
    iexact PS1
  iintro ⟨HO, ZS1, Y1⟩
  sl_exec
  iapply (sent_wait (m := m) (κ := κ) c 2 (by decide) (sendSem_eq 2 1 rfl _)) $$ [HO CS2 PS2]
  · isplitr; · iexact HR
    isplitl [HO]; · iexact HO
    isplitl [CS2]; · iexact CS2
    iexact PS2
  iintro ⟨HO, ZS2, Y2⟩
  sl_exec
  iapply (sent_wait (m := m) (κ := κ) c 3 (by decide) (sendSem_eq 3 2 rfl _)) $$ [HO CS3 PS3]
  · isplitr; · iexact HR
    isplitl [HO]; · iexact HO
    isplitl [CS3]; · iexact CS3
    iexact PS3
  iintro ⟨HO, ZS3, Y3⟩
  sl_exec
  iapply (sent_wait (m := m) (κ := κ) c 4 (by decide) (sendSem_eq 4 3 rfl _)) $$ [HO CS4 PS4]
  · isplitr; · iexact HR
    isplitl [HO]; · iexact HO
    isplitl [CS4]; · iexact CS4
    iexact PS4
  iintro ⟨HO, ZS4, Y4⟩
  sl_exec
  iapply (sent_wait (m := m) (κ := κ) c 5 (by decide) (sendSem_eq 5 4 rfl _)) $$ [HO CS5 PS5]
  · isplitr; · iexact HR
    isplitl [HO]; · iexact HO
    isplitl [CS5]; · iexact CS5
    iexact PS5
  iintro ⟨HO, ZS5, Y5⟩
  sl_exec
  iapply (sent_wait (m := m) (κ := κ) c 6 (by decide) (sendSem_eq 6 5 rfl _)) $$ [HO CS6 PS6]
  · isplitr; · iexact HR
    isplitl [HO]; · iexact HO
    isplitl [CS6]; · iexact CS6
    iexact PS6
  iintro ⟨HO, ZS6, Y6⟩
  sl_exec
  iapply (sent_wait (m := m) (κ := κ) c 7 (by decide) (sendSem_eq 7 6 rfl _)) $$ [HO CS7 PS7]
  · isplitr; · iexact HR
    isplitl [HO]; · iexact HO
    isplitl [CS7]; · iexact CS7
    iexact PS7
  iintro ⟨HO, ZS7, Y7⟩
  sl_exec
  ihave R0 := (stripe_done c 0 0 rfl (stripe_inb 0) 0 (oslot_inb 0) _ fr _ _ (k0_pay10 (g0 (ix1 0)) (g1 (ix1 0))) (rows m c) w
    ((pay_0 _ _ _ _).trans (pay_congr (congrArg₂ k0_pay10 (scale_read0 _ _ g0) (scale_read1 _ _ g1)) (stripe_read 0 _ _ _ _ 0 _ rfl _ _ w) (rows_read _ _)))) $$ [R0]
  · iexact R0
  ihave R1 := (stripe_done c 1 512 rfl (stripe_inb 1) 1 (oslot_inb 1) _ fr _ _ (k0_pay10 (g0 (ix1 0)) (g1 (ix1 0))) (rows m c) w
    ((pay_1 _ _ _).trans (pay_congr (congrArg₂ k0_pay10 (scale_read0 _ _ g0) (scale_read1 _ _ g1)) (stripe_read 1 _ _ _ _ 1 _ rfl _ _ w) (rows_read _ _)))) $$ [R1]
  · iexact R1
  ihave R2 := (stripe_done c 2 1024 rfl (stripe_inb 2) 0 (oslot_inb 0) _ fr _ _ (k0_pay10 (g0 (ix1 0)) (g1 (ix1 0))) (rows m c) w
    ((pay_2 _ _ _).trans (pay_congr (congrArg₂ k0_pay10 (scale_read0 _ _ g0) (scale_read1 _ _ g1)) (stripe_read 2 _ _ _ _ 2 _ rfl _ _ w) (rows_read _ _)))) $$ [R2]
  · iexact R2
  ihave R3 := (stripe_done c 3 1536 rfl (stripe_inb 3) 1 (oslot_inb 1) _ fr _ _ (k0_pay10 (g0 (ix1 0)) (g1 (ix1 0))) (rows m c) w
    ((pay_3 _ _ _).trans (pay_congr (congrArg₂ k0_pay10 (scale_read0 _ _ g0) (scale_read1 _ _ g1)) (stripe_read 3 _ _ _ _ 3 _ rfl _ _ w) (rows_read _ _)))) $$ [R3]
  · iexact R3
  ihave R4 := (stripe_done c 4 2048 rfl (stripe_inb 4) 0 (oslot_inb 0) _ fr _ _ (k0_pay10 (g0 (ix1 0)) (g1 (ix1 0))) (rows m c) w
    ((pay_4 _ _ _).trans (pay_congr (congrArg₂ k0_pay10 (scale_read0 _ _ g0) (scale_read1 _ _ g1)) (stripe_read 4 _ _ _ _ 4 _ rfl _ _ w) (rows_read _ _)))) $$ [R4]
  · iexact R4
  ihave R5 := (stripe_done c 5 2560 rfl (stripe_inb 5) 1 (oslot_inb 1) _ fr _ _ (k0_pay10 (g0 (ix1 0)) (g1 (ix1 0))) (rows m c) w
    ((pay_5 _ _ _).trans (pay_congr (congrArg₂ k0_pay10 (scale_read0 _ _ g0) (scale_read1 _ _ g1)) (stripe_read 0 _ _ _ _ 5 _ rfl _ _ w) (rows_read _ _)))) $$ [R5]
  · iexact R5
  ihave R6 := (stripe_done c 6 3072 rfl (stripe_inb 6) 0 (oslot_inb 0) _ fr _ _ (k0_pay10 (g0 (ix1 0)) (g1 (ix1 0))) (rows m c) w
    ((pay_6 _ _ _).trans (pay_congr (congrArg₂ k0_pay10 (scale_read0 _ _ g0) (scale_read1 _ _ g1)) (stripe_read 1 _ _ _ _ 6 _ rfl _ _ w) (rows_read _ _)))) $$ [R6]
  · iexact R6
  ihave R7 := (stripe_done c 7 3584 rfl (stripe_inb 7) 1 (oslot_inb 1) _ fr _ _ (k0_pay10 (g0 (ix1 0)) (g1 (ix1 0))) (rows m c) w
    ((pay_7 _ _ _).trans (pay_congr (congrArg₂ k0_pay10 (scale_read0 _ _ g0) (scale_read1 _ _ g1)) (stripe_read 2 _ _ _ _ 7 _ rfl _ _ w) (rows_read _ _)))) $$ [R7]
  · iexact R7
  ihave R8 := (stripe_done c 8 4096 rfl (stripe_inb 8) 0 (oslot_inb 0) _ fr _ _ (k0_pay10 (g0 (ix1 0)) (g1 (ix1 0))) (rows m c) w
    ((pay_8 _ _ _).trans (pay_congr (congrArg₂ k0_pay10 (scale_read0 _ _ g0) (scale_read1 _ _ g1)) (stripe_read 3 _ _ _ _ 8 _ rfl _ _ w) (rows_read _ _)))) $$ [R8]
  · iexact R8
  ihave R9 := (stripe_done c 9 4608 rfl (stripe_inb 9) 1 (oslot_inb 1) _ fr _ _ (k0_pay10 (g0 (ix1 0)) (g1 (ix1 0))) (rows m c) w
    ((pay_9 _ _ _).trans (pay_congr (congrArg₂ k0_pay10 (scale_read0 _ _ g0) (scale_read1 _ _ g1)) (stripe_read 4 _ _ _ _ 9 _ rfl _ _ w) (rows_read _ _)))) $$ [R9]
  · iexact R9
  ihave R10 := (stripe_done c 10 5120 rfl (stripe_inb 10) 0 (oslot_inb 0) _ fr _ _ (k0_pay10 (g0 (ix1 0)) (g1 (ix1 0))) (rows m c) w
    ((pay_10 _ _ _).trans (pay_congr (congrArg₂ k0_pay10 (scale_read0 _ _ g0) (scale_read1 _ _ g1)) (stripe_read 0 _ _ _ _ 10 _ rfl _ _ w) (rows_read _ _)))) $$ [R10]
  · iexact R10
  ihave R11 := (stripe_done c 11 5632 rfl (stripe_inb 11) 1 (oslot_inb 1) _ fr _ _ (k0_pay10 (g0 (ix1 0)) (g1 (ix1 0))) (rows m c) w
    ((pay_11 _ _ _).trans (pay_congr (congrArg₂ k0_pay10 (scale_read0 _ _ g0) (scale_read1 _ _ g1)) (stripe_read 1 _ _ _ _ 11 _ rfl _ _ w) (rows_read _ _)))) $$ [R11]
  · iexact R11
  ihave R12 := (stripe_done c 12 6144 rfl (stripe_inb 12) 0 (oslot_inb 0) _ fr _ _ (k0_pay10 (g0 (ix1 0)) (g1 (ix1 0))) (rows m c) w
    ((pay_12 _ _ _).trans (pay_congr (congrArg₂ k0_pay10 (scale_read0 _ _ g0) (scale_read1 _ _ g1)) (stripe_read 2 _ _ _ _ 12 _ rfl _ _ w) (rows_read _ _)))) $$ [R12]
  · iexact R12
  ihave R13 := (stripe_done c 13 6656 rfl (stripe_inb 13) 1 (oslot_inb 1) _ fr _ _ (k0_pay10 (g0 (ix1 0)) (g1 (ix1 0))) (rows m c) w
    ((pay_13 _ _ _).trans (pay_congr (congrArg₂ k0_pay10 (scale_read0 _ _ g0) (scale_read1 _ _ g1)) (stripe_read 3 _ _ _ _ 13 _ rfl _ _ w) (rows_read _ _)))) $$ [R13]
  · iexact R13
  ihave R14 := (stripe_done c 14 7168 rfl (stripe_inb 14) 0 (oslot_inb 0) _ fr _ _ (k0_pay10 (g0 (ix1 0)) (g1 (ix1 0))) (rows m c) w
    ((pay_14 _ _ _).trans (pay_congr (congrArg₂ k0_pay10 (scale_read0 _ _ g0) (scale_read1 _ _ g1)) (stripe_read 4 _ _ _ _ 14 _ rfl _ _ w) (rows_read _ _)))) $$ [R14]
  · iexact R14
  ihave R15 := (stripe_done c 15 7680 rfl (stripe_inb 15) 1 (oslot_inb 1) _ fr _ _ (k0_pay10 (g0 (ix1 0)) (g1 (ix1 0))) (rows m c) w
    ((pay_15 _ _ _).trans (pay_congr (congrArg₂ k0_pay10 (scale_read0 _ _ g0) (scale_read1 _ _ g1)) (stripe_read 0 _ _ _ _ 15 _ rfl _ _ w) (rows_read _ _)))) $$ [R15]
  · iexact R15
  rw [wp_ret]
  imodintro
  isplitl [HO]; · iexists _; iexact HO
  isplitl [ZB]; · iexact ZB
  isplitl [ZR1 ZR2 ZR3 ZR4 ZR5 ZR6 ZR7]
  · isplitl [ZR1]; · iexact ZR1
    isplitl [ZR2]; · iexact ZR2
    isplitl [ZR3]; · iexact ZR3
    isplitl [ZR4]; · iexact ZR4
    isplitl [ZR5]; · iexact ZR5
    isplitl [ZR6]; · iexact ZR6
    iexact ZR7
  isplitl [ZS1 ZS2 ZS3 ZS4 ZS5 ZS6 ZS7]
  · isplitl [ZS1]; · iexact ZS1
    isplitl [ZS2]; · iexact ZS2
    isplitl [ZS3]; · iexact ZS3
    isplitl [ZS4]; · iexact ZS4
    isplitl [ZS5]; · iexact ZS5
    isplitl [ZS6]; · iexact ZS6
    iexact ZS7
  isplitl [S2 S3 S4 S5 S6 S7 S8 S9]
  · isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [T25 T26 T27 T28 T29]
  · isplitl [T25]; · iexact T25
    isplitl [T26]; · iexact T26
    isplitl [T27]; · iexact T27
    isplitl [T28]; · iexact T28
    iexact T29
  isplitl [U30 U31]
  · isplitl [U30]; · iexact U30
    iexact U31
  isplitl [X2 X3 X4 X5 X6 X7 X8 X9]
  · isplitl [X2]; · iexact X2
    isplitl [X3]; · iexact X3
    isplitl [X4]; · iexact X4
    isplitl [X5]; · iexact X5
    isplitl [X6]; · iexact X6
    isplitl [X7]; · iexact X7
    isplitl [X8]; · iexact X8
    iexact X9
  isplitl [W25 W26 W27 W28 W29]
  · isplitl [W25]; · iexact W25
    isplitl [W26]; · iexact W26
    isplitl [W27]; · iexact W27
    isplitl [W28]; · iexact W28
    iexact W29
  isplitl [V0 V1 V2 V3 V4 V5 V6 V7]
  · isplitl [V0]; · iexists _; iexact V0
    isplitl [V1]; · iexists _; iexact V1
    isplitl [V2]; · iexists _; iexact V2
    isplitl [V3]; · iexists _; iexact V3
    isplitl [V4]; · iexists _; iexact V4
    isplitl [V5]; · iexists _; iexact V5
    isplitl [V6]; · iexists _; iexact V6
    iexists _; iexact V7
  isplitl [B0 B1 B2 B3 B4]
  · isplitl [B0]; · iexists _; iexact B0
    isplitl [B1]; · iexists _; iexact B1
    isplitl [B2]; · iexists _; iexact B2
    isplitl [B3]; · iexists _; iexact B3
    iexists _; iexact B4
  isplitl [HA]
  · iexists _; iexact HA
  isplitl [Y1 Y2 Y3 Y4 Y5 Y6 Y7]
  · isplitl [Y1]; · iexact Y1
    isplitl [Y2]; · iexact Y2
    isplitl [Y3]; · iexact Y3
    isplitl [Y4]; · iexact Y4
    isplitl [Y5]; · iexact Y5
    isplitl [Y6]; · iexact Y6
    iexact Y7
  isplitl [O0 O1]
  · isplitl [O0]; · iexists _; iexact O0
    iexists _; iexact O1
  isplitl [R0 R1 R2 R3 R4 R5 R6 R7 R8 R9 R10 R11 R12 R13 R14 R15]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  isplitl [G0]; · iexact G0
  iexact G1

end Cert.Exchange
-- ==== Proof.Device.lean ====
/-
# A device's whole share of the launch

What a device holds before its body and after it, as the launch hands it over and takes it back, and the body between them.
-/
module

public import proofs.«01_k».proof.Proof.Walk

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic Idealize.ShloMosaic.Transfers
open Idealize.ShloMosaic.Pipeline (Dat Cfg Window BodyObligation cellOf)
open Idealize.ShloMosaic.ValueIdx (ix1 ix2 ix3)

variable {F : FTy → Type} [FloatOps F]
local notation "𝕄" => MT nD τ sig Unit (Elt F) ℕ UU ℕ
variable (m : (ℓ : Loc nD τ sig) → Buf (Elt F) ℓ)

variable (ρ : Dev nD → PrngReg)

/-! ## What the launch hands a device -/

abbrev scale0 (c : Dev nD) : S1.Idx → Elt F .f32 := m ((c : Thread nD τ).loc main_arg2)
abbrev scale1 (c : Dev nD) : S1.Idx → Elt F .f32 := m ((c : Thread nD τ).loc main_arg3)

/-- What device `c`'s result holds at the end. -/
def resultAt (c : Dev nD) : S512x8192.Idx → Elt F .f32 :=
  product (k0_pay10 (scale0 m c (ix1 0)) (scale1 m c (ix1 0))) (rows m c) (m ((c : Thread nD τ).loc main_arg1))

/-- A device's positions in its own cells, and the tokens of the duties it pays. -/
def linear (c : Dev nD) : sProp 𝕄 :=
  iprop((bigSep Finset.univ fun j : Fin 16 => atPos ER (kcell (c, j)) 0 ∅ 0)
    ∗ (bigSep Finset.univ fun p : Dev nD => dutyTok ER (barCell p) 0 c)
    ∗ (bigSep Finset.univ fun d : Dev nD => dutyTok ER (sendCell c d) 0 d)
    ∗ bigSep Finset.univ fun p : Dev nD => dutyTok ER (recvCell p c) 0 c)

/-- Its other semaphores' counters at zero: of the copies in, of the stripes in and of the stripes out. -/
abbrev locals (c : Dev nD) : sProp 𝕄 := iprop((lsem c 2 ∗ lsem c 3 ∗ lsem c 4 ∗ lsem c 5 ∗ lsem c 6 ∗ lsem c 7 ∗ lsem c 8 ∗ lsem c 9) ∗ (lsem c 25 ∗ lsem c 26 ∗ lsem c 27 ∗ lsem c 28 ∗ lsem c 29) ∗ (lsem c 30 ∗ lsem c 31))

/-- Its scratch buffers, whole. -/
abbrev scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))

/-- Its arguments and its result whole, the result at contents `f`. -/
abbrev arrays (c : Dev nD) (f : S512x8192.Idx → Elt F .f32) : sProp 𝕄 :=
  iprop((((c : Thread nD τ).loc main_arg0) ↦{fullShare} m ((c : Thread nD τ).loc main_arg0)) ∗ (((c : Thread nD τ).loc main_arg1) ↦{fullShare} m ((c : Thread nD τ).loc main_arg1)) ∗ (((c : Thread nD τ).loc main_v1) ↦{fullShare} f))

def start (c : Dev nD) : sProp 𝕄 :=
  iprop((∃ κ, records m κ ∗ linear c) ∗ levAts L lv
    ∗ (cred (tallyAt (barCell c) () 7) ∗ cred (tallyAt (recvCell c (peer c 1)) () N) ∗ cred (tallyAt (recvCell c (peer c 2)) () N) ∗ cred (tallyAt (recvCell c (peer c 3)) () N) ∗ cred (tallyAt (recvCell c (peer c 4)) () N) ∗ cred (tallyAt (recvCell c (peer c 5)) () N) ∗ cred (tallyAt (recvCell c (peer c 6)) () N) ∗ cred (tallyAt (recvCell c (peer c 7)) () N)) ∗ locals c ∗ arrays m c (m ((c : Thread nD τ).loc main_v1)))

def Φ₀ (c : Dev nD) : sProp 𝕄 := iprop(start m c ∗ scratch c)

/-- The handshake's semaphores' counters at zero. -/
abbrev closed (c : Dev nD) : sProp 𝕄 :=
  iprop(semVal (barCell c) 0 ∗ (semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0) ∗ bigSep Finset.univ fun k : Dev nD => semVal (recvCell c k) 0)

def Φ₁ (c : Dev nD) : sProp 𝕄 := iprop(closed c ∗ locals c ∗ arrays m c (resultAt m c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => scale0 m c
    | ⟨1, _⟩ => scale1 m c
  Φ t := match t with
    | ⟨0, _⟩ => Φ₀ m c
    | ⟨_ + 1, _⟩ => Φ₁ m c
  q _ := fullShare
  owed t := match t with
    | ⟨0, _⟩ => owedB c 7
    | ⟨_ + 1, _⟩ => 0

/-! ## The scales as the pipeline stages them -/

theorem index0 : ∀ t : Fin cfg0.N, win0_0.index t (0 : Fin 1) = 0 := (by decide +kernel : ∀ t : Fin grid0.N, _)
theorem index1 : ∀ t : Fin cfg0.N, win0_1.index t (0 : Fin 1) = 0 := (by decide +kernel : ∀ t : Fin grid0.N, _)

theorem block0 (t : Fin cfg0.N) (j : S1.Idx) : ((cfg0.win 0).blk t).view.emb j = j := by
  have e0 := index0 t
  funext a; apply Fin.ext
  match a with
  | ⟨0, _⟩ => show win0_0.index t (0 : Fin 1) * 1 + 1 * (j 0).val = (j 0).val; omega
theorem block1 (t : Fin cfg0.N) (j : S1.Idx) : ((cfg0.win 1).blk t).view.emb j = j := by
  have e0 := index1 t
  funext a; apply Fin.ext
  match a with
  | ⟨0, _⟩ => show win0_1.index t (0 : Fin 1) * 1 + 1 * (j 0).val = (j 0).val; omega

theorem before0 (c : Dev nD) (t : Fin cfg0.N) (d) : (dats m 0 c).before (0 : Fin 2) t d = scale0 m c := by
  rw [(dats m 0 c).before_fetched (0 : Fin 2) t (fetch0_0 t) d]
  funext j
  show m ((c : Thread nD τ).loc main_arg2) (((cfg0.win 0).blk t).view.emb j) = _
  rw [block0]
theorem before1 (c : Dev nD) (t : Fin cfg0.N) (d) : (dats m 0 c).before (1 : Fin 2) t d = scale1 m c := by
  rw [(dats m 0 c).before_fetched (1 : Fin 2) t (fetch0_1 t) d]
  funext j
  show m ((c : Thread nD τ).loc main_arg3) (((cfg0.win 1).blk t).view.emb j) = _
  rw [block1]

/-! ## The copies' shares of the arguments -/

theorem share_out {ℓ : Loc nD τ sig} (f : Buf (Elt F) ℓ) (k : ℕ) (l : List ℕ) (h : Finset.range k = l.toFinset) (hl : l.Nodup) :
    (ℓ ↦{fullShare} f : sProp 𝕄) ⊣⊢ iprop((ℓ ↦{shareDrop fullShare k} f) ∗ bigSepL l fun i => ℓ ↦{shareTokN fullShare i} f) := by
  have e := pointsTo_toks_range (Ix := Unit) (Name := ℕ) (U := UU) (Lvl := ℕ) (ℓ := ℓ) (S := Finset.univ) (f := f) fullShare k
  rw [bigSep_eq_bigSepL_of_eq l h hl] at e
  exact e

/-- The left operand, its share left over, and the shares the eight copies of it borrow. -/
theorem x_shares (c : Dev nD) (f : Buf (Elt F) ((c : Thread nD τ).loc main_arg0)) : ∃ R : sProp 𝕄, (((c : Thread nD τ).loc main_arg0) ↦{fullShare} f : sProp 𝕄)
    ⊣⊢ iprop(R ∗ xTok c 2 f ∗ xTok c 3 f ∗ xTok c 4 f ∗ xTok c 5 f ∗ xTok c 6 f ∗ xTok c 7 f ∗ xTok c 8 f ∗ xTok c 9 f) := by
  refine ⟨iprop((((c : Thread nD τ).loc main_arg0) ↦{shareDrop fullShare 10} f) ∗ xTok c 0 f ∗ xTok c 1 f), ?_⟩
  have e : (((c : Thread nD τ).loc main_arg0) ↦{fullShare} f : sProp 𝕄)
      ⊣⊢ iprop((((c : Thread nD τ).loc main_arg0) ↦{shareDrop fullShare 10} f) ∗ xTok c 2 f ∗ xTok c 3 f ∗ xTok c 4 f ∗ xTok c 5 f ∗ xTok c 6 f ∗ xTok c 7 f ∗ xTok c 8 f ∗ xTok c 9 f ∗ xTok c 0 f ∗ xTok c 1 f) :=
    share_out (F := F) (ℓ := ((c : Thread nD τ).loc main_arg0)) f 10 [2, 3, 4, 5, 6, 7, 8, 9, 0, 1] (by decide) (by decide)
  refine e.trans ⟨?_, ?_⟩
  · iintro ⟨H, X2, X3, X4, X5, X6, X7, X8, X9, X0, X1⟩
    isplitl [H X0 X1]
    · isplitl [H]; · iexact H
      isplitl [X0] <;> iassumption
    isplitl [X2]; · iexact X2
    isplitl [X3]; · iexact X3
    isplitl [X4]; · iexact X4
    isplitl [X5]; · iexact X5
    isplitl [X6]; · iexact X6
    isplitl [X7]; · iexact X7
    isplitl [X8]; · iexact X8
    iexact X9
  · iintro ⟨⟨H, X0, X1⟩, X2, X3, X4, X5, X6, X7, X8, X9⟩
    isplitl [H]; · iexact H
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X0] <;> iassumption

/-- The right operand likewise, for the copies of its stripes. -/
theorem w_shares (c : Dev nD) (f : Buf (Elt F) ((c : Thread nD τ).loc main_arg1)) : ∃ R : sProp 𝕄, (((c : Thread nD τ).loc main_arg1) ↦{fullShare} f : sProp 𝕄)
    ⊣⊢ iprop(R ∗ wTok c 25 f ∗ wTok c 26 f ∗ wTok c 27 f ∗ wTok c 28 f ∗ wTok c 29 f) := by
  refine ⟨iprop((((c : Thread nD τ).loc main_arg1) ↦{shareDrop fullShare 30} f)
    ∗ bigSepL (List.range 25) fun i => ((c : Thread nD τ).loc main_arg1) ↦{shareTokN fullShare i} f), ?_⟩
  have e : (((c : Thread nD τ).loc main_arg1) ↦{fullShare} f : sProp 𝕄)
      ⊣⊢ iprop((((c : Thread nD τ).loc main_arg1) ↦{shareDrop fullShare 30} f) ∗ wTok c 25 f ∗ wTok c 26 f ∗ wTok c 27 f ∗ wTok c 28 f ∗ wTok c 29 f
        ∗ bigSepL (List.range 25) fun i => ((c : Thread nD τ).loc main_arg1) ↦{shareTokN fullShare i} f) :=
    share_out (F := F) (ℓ := ((c : Thread nD τ).loc main_arg1)) f 30 (25 :: 26 :: 27 :: 28 :: 29 :: List.range 25) (by decide) (by decide)
  refine e.trans ⟨?_, ?_⟩
  · iintro ⟨H, W25, W26, W27, W28, W29, HR⟩
    isplitl [H HR]
    · isplitl [H] <;> iassumption
    isplitl [W25]; · iexact W25
    isplitl [W26]; · iexact W26
    isplitl [W27]; · iexact W27
    isplitl [W28]; · iexact W28
    iexact W29
  · iintro ⟨⟨H, HR⟩, W25, W26, W27, W28, W29⟩
    isplitl [H]; · iexact H
    isplitl [W25]; · iexact W25
    isplitl [W26]; · iexact W26
    isplitl [W27]; · iexact W27
    isplitl [W28]; · iexact W28
    isplitl [W29]; · iexact W29
    iexact HR

/-! ## The body -/

theorem positions (c : Dev nD) : (bigSep Finset.univ fun j : Fin 16 => (atPos ER (kcell (c, j)) 0 ∅ 0 : sProp 𝕄))
    ⊢ iprop(atPos ER (barCell c) 0 ∅ 0 ∗ (atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0) ∗ (atPos ER (recvCell c c) 0 ∅ 0 ∗ atPos ER (recvCell c (peer c 1)) 0 ∅ 0 ∗ atPos ER (recvCell c (peer c 2)) 0 ∅ 0 ∗ atPos ER (recvCell c (peer c 3)) 0 ∅ 0 ∗ atPos ER (recvCell c (peer c 4)) 0 ∅ 0 ∗ atPos ER (recvCell c (peer c 5)) 0 ∅ 0 ∗ atPos ER (recvCell c (peer c 6)) 0 ∅ 0 ∗ atPos ER (recvCell c (peer c 7)) 0 ∅ 0)) := by
  rw [sixteen_list]
  iintro ⟨B, S1, S2, S3, S4, S5, S6, S7, V0, V1, V2, V3, V4, V5, V6, V7⟩
  have h : (iprop(atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0) : sProp 𝕄)
      ⊢ iprop(atPos ER (recvCell c c) 0 ∅ 0 ∗ atPos ER (recvCell c (peer c 1)) 0 ∅ 0 ∗ atPos ER (recvCell c (peer c 2)) 0 ∅ 0 ∗ atPos ER (recvCell c (peer c 3)) 0 ∅ 0 ∗ atPos ER (recvCell c (peer c 4)) 0 ∅ 0 ∗ atPos ER (recvCell c (peer c 5)) 0 ∅ 0 ∗ atPos ER (recvCell c (peer c 6)) 0 ∅ 0 ∗ atPos ER (recvCell c (peer c 7)) 0 ∅ 0) := by
    have e := (dev8_list fun k : Dev nD => (atPos ER (recvCell c k) 0 ∅ 0 : sProp 𝕄)).symm.trans (ring8_list c fun k => atPos ER (recvCell c k) 0 ∅ 0)
    rw [peer_zero] at e
    exact Entails.of_eq e
  isplitl [B]; · iexact B
  isplitl [S1 S2 S3 S4 S5 S6 S7]
  · isplitl [S1]; · iexact S1
    isplitl [S2]; · iexact S2
    isplitl [S3]; · iexact S3
    isplitl [S4]; · iexact S4
    isplitl [S5]; · iexact S5
    isplitl [S6]; · iexact S6
    iexact S7
  iapply h
  isplitl [V0]; · iexact V0
  isplitl [V1]; · iexact V1
  isplitl [V2]; · iexact V2
  isplitl [V3]; · iexact V3
  isplitl [V4]; · iexact V4
  isplitl [V5]; · iexact V5
  isplitl [V6]; · iexact V6
  iexact V7

theorem some_cols (c : Dev nD) (f : S512x4096.Idx → Elt F .fp8e4m3) :
    (iprop(colPts c (peer c 1) f ∗ colPts c (peer c 2) f ∗ colPts c (peer c 3) f ∗ colPts c (peer c 4) f ∗ colPts c (peer c 5) f ∗ colPts c (peer c 6) f ∗ colPts c (peer c 7) f) : sProp 𝕄) ⊢ iprop((∃ f, colPts c (peer c 1) f) ∗ (∃ f, colPts c (peer c 2) f) ∗ (∃ f, colPts c (peer c 3) f) ∗ (∃ f, colPts c (peer c 4) f) ∗ (∃ f, colPts c (peer c 5) f) ∗ (∃ f, colPts c (peer c 6) f) ∗ (∃ f, colPts c (peer c 7) f)) := by
  iintro ⟨A1, A2, A3, A4, A5, A6, A7⟩
  isplitl [A1]; · iexists f; iexact A1
  isplitl [A2]; · iexists f; iexact A2
  isplitl [A3]; · iexists f; iexact A3
  isplitl [A4]; · iexists f; iexact A4
  isplitl [A5]; · iexists f; iexact A5
  isplitl [A6]; · iexists f; iexact A6
  iexists f; iexact A7

theorem received (c : Dev nD) : (iprop(semVal (recvCell c c) 0 ∗ idle (recvCell c (peer c 1)) ∗ idle (recvCell c (peer c 2)) ∗ idle (recvCell c (peer c 3)) ∗ idle (recvCell c (peer c 4)) ∗ idle (recvCell c (peer c 5)) ∗ idle (recvCell c (peer c 6)) ∗ idle (recvCell c (peer c 7))) : sProp 𝕄)
    ⊢ bigSep Finset.univ fun k : Dev nD => semVal (recvCell c k) 0 := by
  have e := ring8_list (F := F) c fun k => semVal (recvCell c k) 0
  rw [peer_zero] at e
  unfold idle
  exact Entails.of_eq e.symm

/-- A staged scale, as the body finds and leaves it. -/
theorem body_run (c : Dev nD) :
    iprop(Φ₀ m c ∗ (dats m 0 c).owesAt () t0_0.castSucc
      ∗ (∃ d, owns (c : Thread nD τ) (win0_0.stage (cfg0.slots t0_0 0)) fullShare ((dats m 0 c).before (0 : Fin 2) t0_0 d))
      ∗ (∃ d, owns (c : Thread nD τ) (win0_1.stage (cfg0.slots t0_0 1)) fullShare ((dats m 0 c).before (1 : Fin 2) t0_0 d)))
    ⊢ wp frame (wpE (defs₀ (F := F)) 𝒱₀ (c : Thread nD τ) none) Set.univ (bodyAt0 (F := F) t0_0) fun _ =>
      iprop(Φ₁ m c ∗ (dats m 0 c).owesAt () t0_0.succ
        ∗ owns (c : Thread nD τ) (win0_0.stage (cfg0.slots t0_0 0)) fullShare (scale0 m c)
        ∗ owns (c : Thread nD τ) (win0_1.stage (cfg0.slots t0_0 1)) fullShare (scale1 m c)) := by
  obtain ⟨RX, hX⟩ := x_shares (F := F) c (m ((c : Thread nD τ).loc main_arg0))
  obtain ⟨RW, hW⟩ := w_shares (F := F) c (m ((c : Thread nD τ).loc main_arg1))
  simp only [before0, before1]
  unfold Φ₀ start linear owns
  iintro ⟨⟨⟨⟨%κ, #HR, Hpos, TB, TS, TR⟩, #Hlev, ⟨HcB, CR⟩, ⟨S, T, U⟩, HX, HW, HV⟩, ⟨%fx, Fx⟩, ⟨%fq, Fq⟩, ⟨%fa, Fa⟩, ⟨%fw, Fw⟩, ⟨%fo, Fo⟩⟩, Ho, ⟨%d0, %g0, %hg0, G0⟩, ⟨%d1, %g1, %hg1, G1⟩⟩
  have e0 : g0 (ix1 0) = scale0 m c (ix1 0) := congrFun hg0 (ix1 0)
  have e1 : g1 (ix1 0) = scale1 m c (ix1 0) := congrFun hg1 (ix1 0)
  unfold Dat.owesAt Pipeline.owesWithin
  icases Ho with ⟨%W, %hWs, HO⟩
  ihave Hpos := (positions (F := F) c) $$ Hpos
  icases Hpos with ⟨HaB, PS, P0, PR⟩
  imod (self_close (m := m) (κ := κ) c) $$ [P0] with Z0
  · isplitr; · iexact HR
    iexact P0
  ihave TB := (Entails.of_eq (ring8_list c fun p : Dev nD => (dutyTok ER (barCell p) 0 c : sProp 𝕄))) $$ TB
  icases TB with ⟨-, TB⟩
  ihave TR := (Entails.of_eq (ring8_list c fun p : Dev nD => (dutyTok ER (recvCell p c) 0 c : sProp 𝕄))) $$ TR
  icases TR with ⟨-, TR⟩
  ihave TS := (Entails.of_eq (dev8_list fun d : Dev nD => (dutyTok ER (sendCell c d) 0 d : sProp 𝕄))) $$ TS
  icases TS with ⟨-, TS⟩
  ihave Fx := (Entails.of_eq (x_split (F := F) c fx)) $$ [Fx]
  · iexact Fx
  ihave Fw := (Entails.of_eq (w_split (F := F) c fw)) $$ [Fw]
  · iexact Fw
  ihave Fo := (Entails.of_eq (o_split (F := F) c fo)) $$ [Fo]
  · iexact Fo
  ihave Fq := (Entails.of_eq (q_split (F := F) c fq)) $$ [Fq]
  · iexact Fq
  icases Fq with ⟨Y0, Y⟩
  have ha : (((c : Thread nD τ).loc cc0_scratch2 ↦{fullShare} fa : sProp 𝕄)) ⊢ iprop(aSl c fa ∗ colPts c (peer c 1) fa ∗ colPts c (peer c 2) fa ∗ colPts c (peer c 3) fa ∗ colPts c (peer c 4) fa ∗ colPts c (peer c 5) fa ∗ colPts c (peer c 6) fa ∗ colPts c (peer c 7) fa) := by
    have e := a_split (F := F) c fa
    rw [peer_zero] at e
    exact Entails.of_eq e
  ihave Fa := ha $$ [Fa]
  · iexact Fa
  icases Fa with ⟨HA, AC⟩
  ihave AC := (some_cols (F := F) c fa) $$ AC
  ihave HV := (Entails.of_eq (r_split (F := F) c (m ((c : Thread nD τ).loc main_v1)))) $$ [HV]
  · iexact HV
  ihave HX := hX.1 $$ HX
  icases HX with ⟨RX, X⟩
  ihave HW := hW.1 $$ HW
  icases HW with ⟨RW, Ws⟩
  have hw := walk (m := m) (κ := κ) c g0 g1 fo (m ((c : Thread nD τ).loc main_v1)) W fx fw fa fq (m ((c : Thread nD τ).loc main_arg1))
  iapply (wp_wand frame (wpE (defs₀ (F := F)) 𝒱₀ (c : Thread nD τ) none) Set.univ (Q := fun _ => after m c g0 g1 (m ((c : Thread nD τ).loc main_arg1)))) $$ [HO HcB HaB TB AC Fx Fw X Ws S T U HA Y TS TR CR PS PR Fo HV G0 G1]
  · iapply hw
    isplitr; · iexact HR
    isplitr; · iexact Hlev
    isplitl [HO]; · iexact HO
    isplitl [HcB]; · iexact HcB
    isplitl [HaB]; · iexact HaB
    isplitl [TB]; · iexact TB
    isplitl [AC]; · iexact AC
    isplitl [Fx]; · iexact Fx
    isplitl [Fw]; · iexact Fw
    isplitl [X]; · iexact X
    isplitl [Ws]; · iexact Ws
    isplitl [S]; · iexact S
    isplitl [T]; · iexact T
    isplitl [HA]; · iexact HA
    isplitl [Y]; · iexact Y
    isplitl [TS]; · iexact TS
    isplitl [TR]; · iexact TR
    isplitl [CR]; · iexact CR
    isplitl [PS]; · iexact PS
    isplitl [PR]; · iexact PR
    isplitl [Fo]; · iexact Fo
    isplitl [HV]; · iexact HV
    isplitl [U]; · iexact U
    isplitl [G0]; · iexact G0
    iexact G1
  iintro %_u ⟨⟨%W', HO⟩, ZB, ZR, ZS, S, T, U, X, Ws, Fx, Fw, ⟨%fa', Fa⟩, ⟨Y1, Y2, Y3, Y4, Y5, Y6, Y7⟩, Fo, HV, G0, G1⟩
  unfold Φ₁ resultAt
  rw [e0, e1]
  isplitl [Z0 ZB ZR ZS S T U X Ws Fx Fw Fa Y0 Y1 Y2 Y3 Y4 Y5 Y6 Y7 Fo HV RX RW]
  · isplitl [Z0 ZB ZR ZS]
    · isplitl [ZB]; · iexact ZB
      isplitl [ZS]; · unfold idle; iexact ZS
      iapply (received (F := F) c)
      isplitl [Z0]; · iexact Z0
      iexact ZR
    isplitl [S T U]
    · isplitl [S]; · iexact S
      isplitl [T]; · iexact T
      iexact U
    isplitl [X Ws HV RX RW]
    · isplitl [X RX]
      · iapply hX.2
        isplitl [RX]; · iexact RX
        iexact X
      isplitl [Ws RW]
      · iapply hW.2
        isplitl [RW]; · iexact RW
        iexact Ws
      iapply (Entails.of_eq (r_split (F := F) c _).symm)
      iexact HV
    isplitl [Fx]
    · iapply (x_join (F := F) c fx); iexact Fx
    isplitl [Y0 Y1 Y2 Y3 Y4 Y5 Y6 Y7]
    · iapply (q_join (F := F) c fq)
      isplitl [Y0]; · iexists _; iexact Y0
      isplitl [Y1]; · iexists _; iexact Y1
      isplitl [Y2]; · iexists _; iexact Y2
      isplitl [Y3]; · iexists _; iexact Y3
      isplitl [Y4]; · iexists _; iexact Y4
      isplitl [Y5]; · iexists _; iexact Y5
      isplitl [Y6]; · iexists _; iexact Y6
      iexists _; iexact Y7
    isplitl [Fa]; · iexists fa'; iexact Fa
    isplitl [Fw]
    · iapply (w_join (F := F) c fw); iexact Fw
    iapply (o_join (F := F) c fo); iexact Fo
  isplitl [HO]
  · iexists W'
    isplitr; · ipureintro; exact fun _ _ => Or.inl trivial
    iexact HO
  isplitl [G0]
  · iexists g0
    isplitr; · ipureintro; exact hg0
    iexact G0
  iexists g1
  isplitr; · ipureintro; exact hg1
  iexact G1

theorem body_at : defs₀ (F := F) .tc cfg0.body (cfg0.bodyArgs t0_0 (cfg0.slots t0_0)) = bodyAt0 (F := F) t0_0 := rfl

theorem wp_post {α : Type} (c : Dev nD) {P : sProp 𝕄} (p : Prog (TpuEff nD τ sig (Elt F) Λ₀ .tc) α) {Q Q' : α → sProp 𝕄}
    (h : P ⊢ wp frame (wpE (defs₀ (F := F)) 𝒱₀ (c : Thread nD τ) none) Set.univ p Q) (hQ : ∀ a, Q a ⊢ Q' a) :
    P ⊢ wp frame (wpE (defs₀ (F := F)) 𝒱₀ (c : Thread nD τ) none) Set.univ p Q' :=
  h.trans (wp_mono frame _ _ hQ)

/-- The library's body obligation on device `c`. -/
theorem body_obligation (c : Dev nD) : BodyObligation (dats (F := F) m 0 c) (defs₀ (F := F)) 𝒱₀ () Set.univ := fun t => by
  rw [fin_N0 t]
  rw [bigSep_W0, bigSep_W0, body_at]
  have key := body_run m c
  generalize bodyAt0 (F := F) t0_0 = p at key ⊢
  refine BIBase.Entails.trans ?_ (wp_post c p key fun _ => ?_)
  · exact Entails.refl _
  · exact Entails.refl _

end Cert.Exchange
-- ==== Proof.Launch.lean ====
/-
# The launch

What the machine deals every device at launch — its cells' rounds, its tokens, its credits — brought to the form a device
starts from; and the run of the whole program from any memory, with the arrays every device ends with.
-/
module

public import proofs.«01_k».proof.Proof.Device
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic Idealize.ShloMosaic.Transfers
open Idealize.ShloMosaic.Pipeline (Dat Cfg Window BodyObligation cellOf)
open Idealize.ShloMosaic.ValueIdx (ix1 ix2 ix3)

variable {F : FTy → Type} [FloatOps F]
local notation "𝕄" => MT nD τ sig Unit (Elt F) ℕ UU ℕ
variable (m : (ℓ : Loc nD τ sig) → Buf (Elt F) ℓ)

variable (ρ : Dev nD → PrngReg)

/-! ## The semaphores at launch -/

/-- The kernel's own semaphores: all but the two of the staging pipeline and the barrier. -/
def osem : Fin 30 → SemLoc sig := fun k => .dma ⟨2 + k.val, by have := k.isLt; show 2 + k.val < 32; omega⟩

theorem ownSemFacts : Pipeline.OwnSemFacts cfg0.spec osem := by decide

theorem share_eq (c : Dev nD) (w : Fin cfg0.W) : (dats m 0 c).share w = fullShare := by unfold Dat.share; split <;> rfl

omit [FloatOps F] in
theorem own_all (c : Dev nD) : (Pipeline.ownSems0 (Ix := Unit) (Name := ℕ) (U := UU) (Lvl := ℕ) (Val := Elt F) (τ := τ) osem c : sProp 𝕄)
    = iprop(lsem c 2 ∗ lsem c 3 ∗ lsem c 4 ∗ lsem c 5 ∗ lsem c 6 ∗ lsem c 7 ∗ lsem c 8 ∗ lsem c 9 ∗ lsem c 10 ∗ lsem c 11 ∗ lsem c 12 ∗ lsem c 13 ∗ lsem c 14 ∗ lsem c 15 ∗ lsem c 16 ∗ lsem c 17 ∗ lsem c 18 ∗ lsem c 19 ∗ lsem c 20 ∗ lsem c 21 ∗ lsem c 22 ∗ lsem c 23 ∗ lsem c 24 ∗ lsem c 25 ∗ lsem c 26 ∗ lsem c 27 ∗ lsem c 28 ∗ lsem c 29 ∗ lsem c 30 ∗ lsem c 31) := by
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide)]; rfl

omit [FloatOps F] in
theorem unscoped_bar (c : Dev nD) : (unscopedSems0 c : sProp 𝕄) = semVal (barCell c) 0 := by
  unfold unscopedSems0
  rw [bigSep_eq_bigSepL_of_eq [SemLoc.reg barS] (by decide) (by decide)]
  rfl

theorem sixteen_sems (c : Dev nD) : (bigSep Finset.univ fun j : Fin 16 => (semVal (kcell (c, j)) 0 : sProp 𝕄))
    = iprop(semVal (barCell c) 0 ∗ lsem c 10 ∗ lsem c 11 ∗ lsem c 12 ∗ lsem c 13 ∗ lsem c 14 ∗ lsem c 15 ∗ lsem c 16 ∗ lsem c 17 ∗ lsem c 18 ∗ lsem c 19 ∗ lsem c 20 ∗ lsem c 21 ∗ lsem c 22 ∗ lsem c 23 ∗ lsem c 24) := by
  rw [sixteen_list]; rfl

theorem sems_deal (c : Dev nD) : iprop(Pipeline.ownSems0 (Ix := Unit) (Name := ℕ) (U := UU) (Lvl := ℕ) (Val := Elt F) (τ := τ) osem c ∗ unscopedSems0 c)
    ⊢ (iprop((bigSep Finset.univ fun j : Fin 16 => semVal (kcell (c, j)) 0) ∗ locals c) : sProp 𝕄) := by
  rw [own_all, unscoped_bar, sixteen_sems]
  iintro ⟨⟨H2, H3, H4, H5, H6, H7, H8, H9, H10, H11, H12, H13, H14, H15, H16, H17, H18, H19, H20, H21, H22, H23, H24, H25, H26, H27, H28, H29, H30, H31⟩, HB⟩
  isplitl [HB H10 H11 H12 H13 H14 H15 H16 H17 H18 H19 H20 H21 H22 H23 H24]
  · isplitl [HB]; · iexact HB
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H25 H26 H27 H28 H29]
  · isplitl [H25]; · iexact H25
    isplitl [H26]; · iexact H26
    isplitl [H27]; · iexact H27
    isplitl [H28]; · iexact H28
    iexact H29
  isplitl [H30]; · iexact H30
  iexact H31

theorem sems_back (c : Dev nD) : (iprop(closed c ∗ locals c) : sProp 𝕄)
    ⊢ iprop(unscopedSems0 c ∗ Pipeline.ownSems0 (Ix := Unit) (Name := ℕ) (U := UU) (Lvl := ℕ) (Val := Elt F) (τ := τ) osem c) := by
  rw [own_all, unscoped_bar]
  unfold closed locals
  rw [dev8_list fun k : Dev nD => (semVal (recvCell c k) 0 : sProp 𝕄)]
  iintro ⟨⟨HB, ⟨H10, H11, H12, H13, H14, H15, H16⟩, H17, H18, H19, H20, H21, H22, H23, H24⟩, ⟨H2, H3, H4, H5, H6, H7, H8, H9⟩, ⟨H25, H26, H27, H28, H29⟩, H30, H31⟩
  isplitl [HB]; · iexact HB
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-! ## The cells and tokens dealt -/

theorem ksem_inj : Function.Injective ksem := by decide

theorem kcell_inj : Function.Injective (kcell : Dev nD × Fin 16 → GSem nD τ sig) := by
  rintro ⟨c, j⟩ ⟨c', j'⟩ h
  have h1 : c = c' := congrArg (fun g : GSem nD τ sig => g.1.1) h
  have h2 : j = j' := ksem_inj (congrArg Prod.snd h)
  rw [h1, h2]

def theCells : Finset (GSem nD τ sig) := Finset.univ.map ⟨kcell, kcell_inj⟩

/-- The semaphore a duty sits on: the barrier, the send semaphore of its distance, the receive semaphore of its payer. -/
def tsem (t : Fin 3) (k : Dev nD) : SemLoc sig := match t with
  | 0 => .reg barS
  | 1 => .dma (sendS k)
  | 2 => .dma (recvS k)

theorem tsem_inj : ∀ (k : Dev nD) (t t' : Fin 3), tsem t k = tsem t' k → t = t' := by decide

def theTok (x : Dev nD × Fin 3 × Dev nD) : GSem nD τ sig × ℕ × Dev nD := (((x.1 : Thread nD τ), tsem x.2.1 x.2.2), 0, x.2.2)

theorem theTok_inj : Function.Injective theTok := by
  rintro ⟨c, t, k⟩ ⟨c', t', k'⟩ h
  have h1 : c = c' := congrArg (fun g : GSem nD τ sig × ℕ × Dev nD => g.1.1.1) h
  have h2 : k = k' := congrArg (fun g : GSem nD τ sig × ℕ × Dev nD => g.2.2) h
  subst h1 h2
  have h3 : t = t' := tsem_inj k t t' (congrArg (fun g : GSem nD τ sig × ℕ × Dev nD => g.1.2) h)
  rw [h3]

def theToks : Finset (GSem nD τ sig × ℕ × Dev nD) := Finset.univ.map ⟨theTok, theTok_inj⟩

def u₀ : UU :=
  (initOf (Pipeline.cells cfgs cellOf_inj) (Pipeline.launchToks cfgs cellOf_inj), (initOf theCells theToks, 1))

/-- The tokens of device `c`'s own cells. -/
def toks (c : Dev nD) : sProp 𝕄 :=
  iprop((bigSep Finset.univ fun k : Dev nD => dutyTok ER (barCell c) 0 k)
    ∗ (bigSep Finset.univ fun k : Dev nD => dutyTok ER (sendCell c k) 0 k)
    ∗ bigSep Finset.univ fun k : Dev nD => dutyTok ER (recvCell c k) 0 k)

/-- The tokens of the duties device `c` pays. -/
def dues (c : Dev nD) : sProp 𝕄 :=
  iprop((bigSep Finset.univ fun p : Dev nD => dutyTok ER (barCell p) 0 c)
    ∗ (bigSep Finset.univ fun d : Dev nD => dutyTok ER (sendCell c d) 0 d)
    ∗ bigSep Finset.univ fun p : Dev nD => dutyTok ER (recvCell p c) 0 c)

/-- What the launch element deals device `c`. -/
def G (c : Dev nD) : sProp 𝕄 :=
  iprop((bigSep Finset.univ fun j : Fin 16 => roundState ER (sched m) (kcell (c, j)) 0)
    ∗ (bigSep Finset.univ fun j : Fin 16 => atPos ER (kcell (c, j)) 0 ∅ 0)
    ∗ (bigSep Finset.univ fun j : Fin 16 => reached ER (kcell (c, j)) 0) ∗ toks c)

/-- What device `c` starts from once every cell's invariant stands. -/
def G' (c : Dev nD) : sProp 𝕄 := iprop((∃ κ, records m κ ∗ linear c) ∗ locals c)

omit [FloatOps F] in
theorem three_list (P : Fin 3 → sProp 𝕄) : bigSep Finset.univ P = iprop(P 0 ∗ P 1 ∗ P 2) :=
  bigSep_univ_eq_bigSepL [0, 1, 2] (by decide) (by decide) P

theorem fund_exchange : BI.own (ER (F := F) (initOf theCells theToks)) ⊢ (|==> bigSep Finset.univ (G m) : sProp 𝕄) := by
  have hX (P : GSem nD τ sig → sProp 𝕄) : bigSep theCells P = bigSep Finset.univ fun c : Dev nD => bigSep Finset.univ fun j : Fin 16 => P (kcell (c, j)) := by
    unfold theCells
    rw [bigSep_map, bigSep_univ_prod]
    rfl
  have hT : bigSep theToks (fun x => (dutyTok ER x.1 x.2.1 x.2.2 : sProp 𝕄)) = bigSep Finset.univ fun c : Dev nD => toks c := by
    unfold theToks
    rw [bigSep_map, bigSep_univ_prod]
    refine bigSep_congr fun c _ => ?_
    rw [bigSep_univ_prod, three_list]
    rfl
  iintro HX
  imod (Rounds.fund ER (sched m) theCells theToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat]; · iexact Hat
  isplitl [Hr]; · iexact Hr
  iexact Htok

/-! ## Every cell's invariant -/

theorem open_cells (c : Dev nD) :
    iprop((bigSep Finset.univ fun j : Fin 16 => semVal (kcell (c, j)) 0) ∗ bigSep Finset.univ fun j : Fin 16 => roundState ER (sched m) (kcell (c, j)) 0)
      ⊢ (|={Set.univ}=> bigSep Finset.univ fun j : Fin 16 => iprop(∃ κ : ℕ, cellInv ER (sched m) κ (kcell (c, j))) : sProp 𝕄) := by
  rw [← bigSep_sep']
  exact (bigSep_mono fun j _ => (Rounds.body_intro ER (sched m) (kcell (c, j))).trans inv_alloc).trans (bigSep_fupd _ _)

/-- What one device has once its cells' invariants stand. -/
def opened (c : Dev nD) : sProp 𝕄 :=
  iprop((bigSep Finset.univ fun j : Fin 16 => iprop(∃ κ : ℕ, cellInv ER (sched m) κ (kcell (c, j))))
    ∗ (bigSep Finset.univ fun j : Fin 16 => reached ER (kcell (c, j)) 0)
    ∗ (bigSep Finset.univ fun j : Fin 16 => atPos ER (kcell (c, j)) 0 ∅ 0) ∗ toks c ∗ locals c)

theorem open_device (c : Dev nD) :
    iprop(Pipeline.ownSems0 (Ix := Unit) (Name := ℕ) (U := UU) (Lvl := ℕ) (Val := Elt F) (τ := τ) osem c ∗ unscopedSems0 c ∗ G m c)
      ⊢ (|={Set.univ}=> opened m c : sProp 𝕄) := by
  unfold G opened
  iintro ⟨Ho, Hu, Hst, Hat, Hr, Ht⟩
  ihave H := (sems_deal (F := F) c) $$ [Ho Hu]
  · isplitl [Ho]; · iexact Ho
    iexact Hu
  icases H with ⟨Hv, Hl⟩
  imod (open_cells m c) $$ [Hv Hst] with HI
  · isplitl [Hv]; · iexact Hv
    iexact Hst
  imodintro
  isplitl [HI]; · iexact HI
  isplitl [Hr]; · iexact Hr
  isplitl [Hat]; · iexact Hat
  isplitl [Ht]; · iexact Ht
  iexact Hl

omit [FloatOps F] in
/-- A family over pairs of devices, its two indices read in the other order. -/
theorem turn (P : Dev nD → Dev nD → sProp 𝕄) : (bigSep Finset.univ fun c => bigSep Finset.univ fun k => P c k)
    = bigSep Finset.univ fun k => bigSep Finset.univ fun c => P c k :=
  by
  rw [← bigSep_univ_prod (fun p : Dev nD × Dev nD => P p.1 p.2), ← bigSep_univ_prod (fun p : Dev nD × Dev nD => P p.2 p.1),
    bigSep_univ_equiv (Equiv.prodComm (Dev nD) (Dev nD))]
  rfl

omit [FloatOps F] in
theorem toks_dues : (bigSep Finset.univ fun c : Dev nD => (toks c : sProp 𝕄)) = bigSep Finset.univ fun c : Dev nD => dues c := by
  unfold toks dues
  simp only [bigSep_sep']
  rw [turn fun c k => dutyTok ER (barCell c) 0 k, turn fun c k => dutyTok ER (recvCell c k) 0 k]

omit [FloatOps F] in
theorem share_known {R : sProp 𝕄} [BI.Persistent R] {P Q : Dev nD → sProp 𝕄} (h : ∀ c, iprop(R ∗ P c) ⊢ Q c) :
    iprop(R ∗ bigSep Finset.univ P) ⊢ bigSep Finset.univ Q :=
  (sep_mono_left (BI.bigSep_of_persistent Finset.univ R)).trans (by rw [← bigSep_sep']; exact bigSep_mono fun c _ => h c)

theorem gather : (bigSep Finset.univ fun c : Dev nD => opened m c) ⊢ (bigSep Finset.univ (G' m) : sProp 𝕄) := by
  unfold opened
  simp only [bigSep_sep']
  rw [toks_dues, ← bigSep_univ_prod (fun p : Dev nD × Fin 16 => iprop(∃ κ : ℕ, cellInv ER (sched m) κ (kcell p))),
    ← bigSep_univ_prod (fun p : Dev nD × Fin 16 => (reached ER (kcell p) 0 : sProp 𝕄))]
  iintro ⟨HI, #HR, Hat, Ht, Hl⟩
  ihave HK := (BI.bigSep_exists_pi Finset.univ (fun (p : Dev nD × Fin 16) (κ : ℕ) => (cellInv ER (sched m) κ (kcell p) : sProp 𝕄))) $$ HI
  icases HK with ⟨%K, #HI⟩
  iapply (share_known (R := records m K)
    (P := fun c => iprop((bigSep Finset.univ fun j : Fin 16 => atPos ER (kcell (c, j)) 0 ∅ 0) ∗ dues c ∗ locals c)) fun c => by
      unfold G' linear dues
      iintro ⟨#H, A, B, C⟩
      isplitl [A B]
      · iexists K
        isplitr; · iexact H
        isplitl [A]; · iexact A
        iexact B
      iexact C)
  isplitr
  · unfold records
    isplitl; · iexact HI
    iexact HR
  · simp only [bigSep_sep']
    isplitl [Hat]; · iexact Hat
    isplitl [Ht]; · iexact Ht
    iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_device m c).trans (bigSep_fupd _ _)).trans (BI.fupd_mono (gather m))

/-! ## The credits -/

theorem tally_recv (a b c k : Dev nD) (n : ℕ) :
    (tallyAt (recvCell a b) () n : CellTallies nD τ sig Unit) (recvCell c k) () = (if a = c ∧ b = k then 1 else 0) * n := by
  rw [tallyAt_apply]
  by_cases h : a = c ∧ b = k
  · obtain ⟨rfl, rfl⟩ := h
    rw [if_pos ⟨rfl, rfl⟩, if_pos ⟨rfl, rfl⟩, Nat.one_mul]
  · rw [if_neg h, if_neg, Nat.zero_mul]
    rintro ⟨h1, -⟩
    exact h ⟨(congrArg (fun g : GSem nD τ sig => g.1.1) h1).symm,
      recvS_inj (congrArg Prod.snd h1).symm⟩

theorem tally_bar (a c : Dev nD) (n : ℕ) :
    (tallyAt (barCell a) () n : CellTallies nD τ sig Unit) (barCell c) () = (if a = c then 1 else 0) * n := by
  rw [tallyAt_apply]
  by_cases h : a = c
  · subst h
    rw [if_pos ⟨rfl, rfl⟩, if_pos rfl, Nat.one_mul]
  · rw [if_neg h, if_neg, Nat.zero_mul]
    rintro ⟨h1, -⟩
    exact h (congrArg (fun g : GSem nD τ sig => g.1.1) h1).symm

theorem owedR_recv (d c k : Dev nD) (n : ℕ) :
    owedR d n (recvCell c k) () = (∑ i ∈ Finset.range n, if peer d (Fin.ofNat 8 (7 - i)) = c ∧ d = k then 1 else 0) * N := by
  induction n with
  | zero => rw [Finset.sum_range_zero, Nat.zero_mul]; rfl
  | succ n ih =>
    rw [Finset.sum_range_succ, Nat.add_mul, ← ih, ← tally_recv]
    rfl

theorem owedR_bar (d c : Dev nD) (n : ℕ) : owedR d n (barCell c) () = 0 := by
  induction n with
  | zero => rfl
  | succ n ih =>
    unfold owedR
    rw [Pi.add_apply, Finsupp.add_apply, ih, tallyAt_ne_cell (fun h => recv_ne_bar _ (congrArg Prod.snd h).symm)]
    rfl

theorem owedB_recv (d c k : Dev nD) (n : ℕ) : owedB d n (recvCell c k) () = owedR d 7 (recvCell c k) () := by
  induction n with
  | zero => rfl
  | succ n ih =>
    unfold owedB
    rw [Pi.add_apply, Finsupp.add_apply, ih, tallyAt_ne_cell (fun h => recv_ne_bar _ (congrArg Prod.snd h))]
    rfl

theorem owedB_bar (d c : Dev nD) (n : ℕ) :
    owedB d n (barCell c) () = ∑ i ∈ Finset.range n, if peer d (Fin.ofNat 8 (7 - i)) = c then 1 else 0 := by
  induction n with
  | zero => rw [Finset.sum_range_zero]; exact owedR_bar d c 7
  | succ n ih =>
    have h := tally_bar (peer d (Fin.ofNat 8 (7 - n))) c 1
    rw [Nat.mul_one] at h
    rw [Finset.sum_range_succ, ← ih, ← h]
    rfl

theorem seven_signals : ∀ c : Dev nD, (∑ d : Dev nD, ∑ i ∈ Finset.range 7, if peer d (Fin.ofNat 8 (7 - i)) = c then 1 else 0) = 7 := by decide
theorem one_block : ∀ c k : Dev nD, k ≠ c → (∑ d : Dev nD, ∑ i ∈ Finset.range 7, if peer d (Fin.ofNat 8 (7 - i)) = c ∧ d = k then 1 else 0) = 1 := by decide

abbrev O₀ (c : Dev nD) : CellTallies nD τ sig Unit := owedB c 7

theorem credit_bar (c : Dev nD) :
    tallyOn (barCell c) (launchCredit (Pipeline.owing O₀) 0 (barCell c)) = (tallyAt (barCell c) () 7 : CellTallies nD τ sig Unit) := by
  unfold tallyAt
  refine congrArg _ (Finsupp.ext fun u => ?_)
  cases u
  rw [Pipeline.launchCredit_owing, Finsupp.single_eq_same, Finset.sum_congr rfl fun d _ => owedB_bar d c 7, seven_signals]

theorem credit_recv (c k : Dev nD) (hk : k ≠ c) :
    tallyOn (recvCell c k) (launchCredit (Pipeline.owing O₀) 0 (recvCell c k)) = (tallyAt (recvCell c k) () N : CellTallies nD τ sig Unit) := by
  unfold tallyAt
  refine congrArg _ (Finsupp.ext fun u => ?_)
  cases u
  rw [Pipeline.launchCredit_owing, Finsupp.single_eq_same, Finset.sum_congr rfl fun d _ => (owedB_recv d c k 7).trans (owedR_recv d c k 7),
    ← Finset.sum_mul, one_block c k hk, Nat.one_mul]

/-- The semaphores the credits of device `c` are on. -/
def credSem (c : Dev nD) (j : Fin 8) : SemLoc sig := if j = 0 then .reg barS else .dma (recvS (peer c j))
theorem credSem_inj : ∀ c : Dev nD, Function.Injective (credSem c) := by decide

omit [FloatOps F] in
theorem eight_list (P : Fin 8 → sProp 𝕄) : bigSep Finset.univ P = iprop(P 0 ∗ P 1 ∗ P 2 ∗ P 3 ∗ P 4 ∗ P 5 ∗ P 6 ∗ P 7) :=
  bigSep_univ_eq_bigSepL [0, 1, 2, 3, 4, 5, 6, 7] (by decide) (by decide) P

theorem creds (c : Dev nD) : (Pipeline.launchCred O₀ c : sProp 𝕄)
    ⊢ iprop(cred (tallyAt (barCell c) () 7) ∗ cred (tallyAt (recvCell c (peer c 1)) () N) ∗ cred (tallyAt (recvCell c (peer c 2)) () N) ∗ cred (tallyAt (recvCell c (peer c 3)) () N) ∗ cred (tallyAt (recvCell c (peer c 4)) () N) ∗ cred (tallyAt (recvCell c (peer c 5)) () N) ∗ cred (tallyAt (recvCell c (peer c 6)) () N) ∗ cred (tallyAt (recvCell c (peer c 7)) () N)) := by
  unfold Pipeline.launchCred
  refine (BI.bigSep_subset (Finset.subset_univ (Finset.univ.map ⟨credSem c, credSem_inj c⟩))).trans ?_
  rw [bigSep_map, eight_list, ← credit_bar, ← credit_recv c (peer c 1) (peer_ne c 1 (by decide)), ← credit_recv c (peer c 2) (peer_ne c 2 (by decide)), ← credit_recv c (peer c 3) (peer_ne c 3 (by decide)), ← credit_recv c (peer c 4) (peer_ne c 4 (by decide)), ← credit_recv c (peer c 5) (peer_ne c 5 (by decide)), ← credit_recv c (peer c 6) (peer_ne c 6 (by decide)), ← credit_recv c (peer c 7) (peer_ne c 7 (by decide))]
  exact Entails.refl _

/-! ## The theorem's side conditions -/

omit [FloatOps F] in
theorem rest_list (c : Dev nD) (V : (b : Ref sig .tc) → Buf (Elt F) ((c : Thread nD τ).loc b)) :
    (Pipeline.unscopedRestP (Ix := Unit) (Name := ℕ) (U := UU) (Lvl := ℕ) Pipeline.Prefetch.none cfg0.spec c V : sProp 𝕄)
      = iprop((((c : Thread nD τ).loc main_arg0) ↦{fullShare} V main_arg0) ∗ (((c : Thread nD τ).loc main_arg1) ↦{fullShare} V main_arg1) ∗ (((c : Thread nD τ).loc main_v1) ↦{fullShare} V main_v1)) :=
  Pipeline.unscopedRestP_eq_of_list cfg0.spec c Pipeline.Prefetch.none V [main_arg0, main_arg1, main_v1] (by decide) (by decide)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [rest_list]
  unfold G' start
  iintro ⟨HA, Hlev, Hcr, -, HG, HL⟩
  ihave Hc := (creds (F := F) c) $$ Hcr
  imodintro
  isplitl
  · isplitl [HG]; · iexact HG
    isplitl [Hlev]; · iexact Hlev
    isplitl [Hc]; · iexact Hc
    isplitl [HL]; · iexact HL
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What a device keeps at the end. -/
def kept (c : Dev nD) : sProp 𝕄 := iprop(unscopedSems0 c ∗ arrays m c (resultAt m c))

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq]
  unfold Φ₁ kept
  iintro ⟨HC, HL, HA, HS⟩
  ihave H := (sems_back (F := F) c) $$ [HC HL]
  · isplitl [HC]; · iexact HC
    iexact HL
  icases H with ⟨HU, HO⟩
  isplitl [HU HA]
  · isplitl [HU]; · iexact HU
    iexact HA
  isplitl [HO]; · iexact HO
  iexact HS

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_B c 7 _ (by fin_cases w <;> fin_cases s <;> decide)
    · exact mayWait_free c _

/-- What a device's arrays and barrier counter hold at the end. -/
def ends (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = resultAt m c

theorem kept_read (c : Dev nD) (s : Phys nD τ sig (Elt F)) :
    iprop(kept m c ∗ emp ∗ SI s) ⊢ (|={Set.univ}=> iprop(⌜ends m c s.mem⌝ ∗ SI s) : sProp 𝕄) := by
  unfold kept
  iintro ⟨⟨HU, H0, H1, H2⟩, -, HSI⟩
  imod (Pipeline.unscopedSems0_read (X := unscopedSems0 c) (c := c) fupd_intro s) $$ [HU HSI] with ⟨%hu, HSI⟩
  · isplitl [HU]; · iexact HU
    iexact HSI
  icombine HSI H0 gives %h0
  icombine HSI H1 gives %h1
  icombine HSI H2 gives %h2
  imodintro
  isplitr
  · ipureintro
    exact ⟨hu, Buf.eq_of_forall_mem_univ h0, Buf.eq_of_forall_mem_univ h1, Buf.eq_of_forall_mem_univ h2⟩
  iexact HSI

/-! ## The run -/

/-- How the machine ends: every device's arguments as they were, its result at the computed contents, every counter zero. -/
def final (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v1) = resultAt m c)
  ∧ s.sem = fun _ => 0

theorem final_of (s : MemSt nD τ sig (Elt F))
    (h : ∀ c : Dev nD, s.mem ((c : Thread nD τ).loc main_arg2) = (dats (F := F) m 0 c).arrAt (0 : Fin 2) cfg0.N
      ∧ s.mem ((c : Thread nD τ).loc main_arg3) = (dats (F := F) m 0 c).arrAt (1 : Fin 2) cfg0.N ∧ ends m c s)
    (hs : ∀ g' : GSem nD τ sig, (g'.1.2 ≠ .tc ∨ g'.2.isScoped .tc = true) → s.sem g' = 0) : final m s :=
  ⟨fun c => ⟨(h c).2.2.2.1, (h c).2.2.2.2.1,
      (h c).1.trans ((dats (F := F) m 0 c).arrAt_in (0 : Fin 2) rfl _),
      (h c).2.1.trans ((dats (F := F) m 0 c).arrAt_in (1 : Fin 2) rfl _), (h c).2.2.2.2.2⟩,
    sem_eq_zero hs fun c => (h c).2.2.1⟩

theorem fund_all : (ownU u₀ : sProp 𝕄)
    ⊢ |={Set.univ}=> iprop(BI.own (EP (F := F) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb _ _ _) $$ HX
  icases H with ⟨HX, -⟩
  have fx : BI.own (((Emb.inl : Emb UB (UB × Counters)).trans (embR : Emb (UB × Counters) 𝕄)) (initOf theCells theToks)) ⊢ (|==> bigSep Finset.univ (G m) : sProp 𝕄) :=
    fund_exchange m
  imod fx $$ HX with HG
  imodintro
  isplitl [HP] <;> iassumption

set_option maxRecDepth 200000 in
/-- At any float values, from any memory with zero counters, the eight devices' program terminates in a `final` state. -/
theorem run_main : θ_run defs (onTc (τ := τ) (main (F := F))) ⟨m, fun _ => 0, ρ⟩ (fun r => final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ _ => rfl) (hpf := fun _ k => k.elim0)
    (X := start m) (Y := kept m) (Z := fun _ => iprop(emp))
    (hX := start_intro m ρ) (hin := phi0_intro m) (hout := phi1_exit m)
    (QY := ends m) (hY := kept_read m)
    (hQ := fun s h hs => final_of m s (fun c => ⟨(h c).1 (0 : Fin 2), (h c).1 (1 : Fin 2), (h c).2.2⟩) hs)

end Cert.Exchange
-- ==== Proof.Value.lean ====
/-
# The result's value

At the ideal values, where narrowing an element changes nothing and a matrix product is the sum of the products, what
device `c` ends with is block `c` of the reference's result: the same sum over the 4096 columns, scaled and gated alike.
-/
module

public import proofs.«01_k».proof.Proof.Launch
public import proofs.«01_k».proof.Proof.Gen.ReferenceIdeal
public import proofs.«01_k».proof.Proof.Gen.ReferenceIdeal.Run
public import proofs.«01_k».proof.Proof.Gen.ReferenceIdeal.Read
public import Idealize.ShloMosaic.Lib.Layout
public import Idealize.ShloMosaic.Lib.Pipeline.Value
public import Idealize.ShloMosaic.Lib.KernelVsHost
public import Idealize.ShloMosaic.PureOps.Ideal.Laws

@[expose] public section

noncomputable section

namespace Cert.Exchange

open Cert.KernelIdeal Cert.KernelIdeal.Gen
open Idealize.ShloMosaic Idealize.ShloMosaic.TcCoe
open Idealize.ShloMosaic.ValueIdx (ix1 ix2 ix3 contrEquiv1 contrEquiv1_symm_val)

/-! ## The matrix product at an element -/

abbrev dd : DotDims S512x4096 S4096x512 S512x512 := dot_S512x4096_S4096x512_S512x512_1_0_0_1_n_n

theorem dd_left_row (q : S512x512.Idx) (k : dd.contr.Idx) : (dd.lhsIdx q k 0).val = (q 0).val := by
  unfold DotDims.lhsIdx
  rw [dif_neg (show ¬(0 : Fin S512x4096.rank) ∈ dd.lhsBatch by decide), dif_pos (show (0 : Fin S512x4096.rank) ∈ dd.lhsNonContracting by decide)]
  rfl
theorem dd_left_col (q : S512x512.Idx) (k : dd.contr.Idx) : (dd.lhsIdx q k 1).val = (k ⟨0, by decide⟩).val := dd.lhsIdx_val_of_single rfl q k
theorem dd_right_row (q : S512x512.Idx) (k : dd.contr.Idx) : (dd.rhsIdx q k 0).val = (k ⟨0, by decide⟩).val := dd.rhsIdx_val_of_single rfl q k
theorem dd_right_col (q : S512x512.Idx) (k : dd.contr.Idx) : (dd.rhsIdx q k 1).val = (q 1).val := by
  unfold DotDims.rhsIdx
  rw [dif_neg (show ¬(1 : Fin S4096x512.rank) ∈ dd.rhsBatch by decide), dif_pos (show (1 : Fin S4096x512.rank) ∈ dd.rhsNonContracting by decide)]
  rfl

/-- An element of the kernel's matrix product: the sum over the 4096 columns. -/
theorem dot_at (a : FVec Ideal S512x4096 .fp8e4m3) (b : FVec Ideal S4096x512 .fp8e4m3) (i j : Fin 512) :
    matmul dd none a b (constant (F := Ideal) S512x512 .f32 0x00000000#32) (ix2 i j) = ∑ k : Fin 4096, a (ix2 i k) * b (ix2 k j) := by
  simp only [matmul]
  rw [Ideal.matmul_constant_zero_apply, ← Equiv.sum_comp (contrEquiv1 dd 4096 rfl rfl).symm]
  refine Finset.sum_congr rfl fun k _ => ?_
  have hk := contrEquiv1_symm_val dd 4096 rfl rfl k
  have el : dd.lhsIdx (ix2 i j) ((contrEquiv1 dd 4096 rfl rfl).symm k) = ix2 i k := funext fun x => Fin.ext (by
    match x with
    | ⟨0, _⟩ => exact dd_left_row _ _
    | ⟨1, _⟩ => exact (dd_left_col _ _).trans hk)
  have er : dd.rhsIdx (ix2 i j) ((contrEquiv1 dd 4096 rfl rfl).symm k) = ix2 k j := funext fun x => Fin.ext (by
    match x with
    | ⟨0, _⟩ => exact (dd_right_row _ _).trans hk
    | ⟨1, _⟩ => exact dd_right_col _ _)
  rw [el, er]

/-! ## The scaling and the gate at an element -/

/-- The kernel's gate of a scaled element. -/
def gate (y : Ideal .f32) : Ideal .f32 :=
  FloatOps.divf y (FloatOps.addf (FloatOps.ofBits .f32 0x3F800000#32) (FloatOps.exp (FloatOps.subf (FloatOps.ofBits .f32 0x00000000#32)
    (FloatOps.minimumf (FloatOps.ofBits .f32 0x42700000#32) (FloatOps.maximumf (FloatOps.ofBits .f32 0xC2700000#32) y)))))

/-- It is the reference's: zero less a value is its negation, and the two programs' quotients and exponentials agree. -/
theorem gate_eq (y : Ideal .f32) : gate y =
    FloatOps.hostDivf y (FloatOps.addf (FloatOps.ofBits .f32 0x3F800000#32) (FloatOps.hostUnary .exp (FloatOps.hostNegf
      (FloatOps.minimumf (FloatOps.ofBits .f32 0x42700000#32) (FloatOps.maximumf (FloatOps.ofBits .f32 0xC2700000#32) y))))) := by
  unfold gate
  rw [Ideal.subf_zero_eq_hostNegf]
  rfl

theorem stored_at (s : Ideal .f32) (v : Vec Ideal S1x4096x512 .f32) (a : Vec Ideal S512x4096 .fp8e4m3) (i j : Fin 512) :
    k0_pay22 (F := Ideal) s v a (ix3 (0 : Fin 1) i j)
      = gate (FloatOps.mulf (∑ k : Fin 4096, a (ix2 i k) * v (ix3 (0 : Fin 1) k j) : EReal) s) := by
  have hb : ∀ k : Fin 4096, (truncf .fp8e4m3 (shapeCast S4096x512 v shapeCasts_S1x4096x512_S4096x512 : FVec Ideal S4096x512 .f32) bitsLt_fp8e4m3_f32 : FVec Ideal S4096x512 .fp8e4m3) (ix2 k j)
      = v (ix3 (0 : Fin 1) k j) := fun k =>
    shapeCast_apply v shapeCasts_S1x4096x512_S4096x512 (ix2 k j) (ix3 (0 : Fin 1) k j) (by
      rw [Shape.rowMajor_val_three, Shape.rowMajor_val_two]
      show (0 * 4096 + k.val) * 512 + j.val = k.val * 512 + j.val
      omega)
  have hd := dot_at a (truncf .fp8e4m3 (shapeCast S4096x512 v shapeCasts_S1x4096x512_S4096x512 : FVec Ideal S4096x512 .f32) bitsLt_fp8e4m3_f32) i j
  rw [Finset.sum_congr rfl fun k _ => congrArg (a (ix2 i k) * ·) (hb k)] at hd
  rw [← hd]
  unfold k0_pay22
  refine (shapeCast_apply _ shapeCasts_S512x512_S1x512x512 (ix3 (0 : Fin 1) i j) (ix2 i j) (by
    rw [Shape.rowMajor_val_three, Shape.rowMajor_val_two]
    show i.val * 512 + j.val = (0 * 512 + i.val) * 512 + j.val
    omega)).trans ?_
  rfl

/-! ## The reference at an element -/

open Cert.ReferenceIdeal.Read in
theorem reference_at (X : Cert.ReferenceIdeal.S4096x4096.Idx → Ideal .f32) (W : Cert.ReferenceIdeal.S4096x8192.Idx → Ideal .f32)
    (s0 s1 : Cert.ReferenceIdeal.S1.Idx → Ideal .f32) (q : Cert.ReferenceIdeal.S4096x8192.Idx) :
    val_main_v10 (F := Ideal) X W s0 s1 q
      = gate (FloatOps.mulf (∑ k : Fin 4096, X (ix2 (q 0) k) * W (ix2 k (q 1)) : EReal) (FloatOps.mulf (s0 (ix1 0)) (s1 (ix1 0)))) := by
  have hl : ∀ k : Fin 4096, lidx_main_v0 q k = ix2 (q 0) k := fun k => funext fun x => by
    match x with
    | ⟨0, _⟩ => rfl
    | ⟨1, _⟩ => rfl
  have hr : ∀ k : Fin 4096, ridx_main_v0 q k = ix2 k (q 1) := fun k => funext fun x => by
    match x with
    | ⟨0, _⟩ => rfl
    | ⟨1, _⟩ => rfl
  have hs : val_main_v3 (F := Ideal) s0 s1 q = FloatOps.mulf (s0 (ix1 0)) (s1 (ix1 0)) := by
    rw [val_main_v3_apply, val_main_v2_apply, val_main_v1_apply]
    have e : ∀ z : Cert.ReferenceIdeal.S1.Idx, z = ix1 0 := fun z => funext fun x => Fin.ext (by
      match x with
      | ⟨0, h⟩ => have := (z ⟨0, h⟩).isLt; change (z ⟨0, h⟩).val < 1 at this; show (z ⟨0, h⟩).val = 0; omega)
    rw [e (idx_main_v2 (idx_main_v3 q))]
  have hy : val_main_v4 (F := Ideal) X W s0 s1 q
      = FloatOps.mulf (∑ k : Fin 4096, X (ix2 (q 0) k) * W (ix2 k (q 1)) : EReal) (FloatOps.mulf (s0 (ix1 0)) (s1 (ix1 0))) := by
    rw [val_main_v4_apply, hs, val_main_v0_apply, Finset.sum_congr rfl fun k _ => congrArg₂ (fun l r => X l * W r) (hl k) (hr k)]
    rfl
  rw [val_main_v10_apply, val_main_v9_apply, val_main_v8_apply, val_main_cst_1_apply, val_main_v7_apply, val_main_v6_apply, val_main_v5_apply,
    val_main_call0_v4_apply, val_main_call0_v3_apply, val_main_cst_0_apply, val_main_call0_v2_apply, val_main_call0_v1_apply, val_main_call0_v0_apply,
    val_main_cst_apply, hy, gate_eq]

/-! ## Block `c` of the reference's result -/

variable (m : (ℓ : Loc nD τ sig) → Buf (Elt Ideal) ℓ)

theorem rows_entry (X : (⟨2, ![4096, 4096]⟩ : Shape).Idx → Ideal .f32)
    (hx : ∀ d : Dev nD, m ((d : Thread nD τ).loc main_arg0) = Layout.block ⟨2, ![4096, 512]⟩ ⟨2, ![4096, 4096]⟩ 1 8 d X)
    (c : Dev nD) (i : Fin 512) (k : Fin 4096) (r : Fin 4096) (hr : r.val = c.val * 512 + i.val) :
    rows m c (ix2 i k) = X (ix2 r k) := by
  have hk : k.val / 512 < 8 := by omega
  have h := congrFun (hx (⟨k.val / 512, hk⟩ : Dev nD)) (ix2 ⟨512 * c.val + i.val, by omega⟩ ⟨k.val % 512, Nat.mod_lt _ (by decide)⟩)
  refine h.trans (congrArg X (funext fun x => Fin.ext ?_))
  match x with
  | ⟨0, _⟩ => show 512 * c.val + i.val = r.val; omega
  | ⟨1, _⟩ => show k.val / 512 * 512 + k.val % 512 = k.val; omega

theorem result_block (X : (⟨2, ![4096, 4096]⟩ : Shape).Idx → Ideal .f32) (W : (⟨2, ![4096, 8192]⟩ : Shape).Idx → Ideal .f32)
    (s0 s1 : (⟨1, ![1]⟩ : Shape).Idx → Ideal .f32)
    (hx : ∀ d : Dev nD, m ((d : Thread nD τ).loc main_arg0) = Layout.block ⟨2, ![4096, 512]⟩ ⟨2, ![4096, 4096]⟩ 1 8 d X)
    (c : Dev nD) (hw : m ((c : Thread nD τ).loc main_arg1) = W) (h0 : m ((c : Thread nD τ).loc main_arg2) = s0)
    (h1 : m ((c : Thread nD τ).loc main_arg3) = s1) :
    resultAt m c = Layout.block ⟨2, ![512, 8192]⟩ ⟨2, ![4096, 8192]⟩ 0 8 c (Cert.ReferenceIdeal.Read.val_main_v10 (F := Ideal) X W s0 s1) := by
  funext p
  have hp1 := (p 1).isLt
  change (p 1).val < 8192 at hp1
  rw [Layout.block_apply, reference_at]
  refine (stored_at _ _ _ (p 0 : Fin 512) (⟨(p 1).val % 512, Nat.mod_lt _ (by decide)⟩ : Fin 512)).trans ?_
  have e : k0_pay10 (F := Ideal) (scale0 m c (ix1 0)) (scale1 m c (ix1 0)) = FloatOps.mulf (s0 (ix1 0)) (s1 (ix1 0)) := by
    rw [show scale0 m c = s0 from h0, show scale1 m c = s1 from h1]
    rfl
  rw [e]
  refine congrArg gate (congrArg (fun z : EReal => FloatOps.mulf (F := Ideal) (φ := .f32) z (FloatOps.mulf (s0 (ix1 0)) (s1 (ix1 0)))) ?_)
  refine Finset.sum_congr rfl fun k _ => congrArg₂ (· * ·) (rows_entry m X hx c (p 0) k _ rfl) ?_
  rw [← hw]
  refine congrArg (m ((c : Thread nD τ).loc main_arg1)) (funext fun x => Fin.ext ?_)
  match x with
  | ⟨0, _⟩ => rfl
  | ⟨1, _⟩ => show 512 * ((p 1).val / 512) + (p 1).val % 512 = (p 1).val; omega

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

set_option maxRecDepth 200000 in
set_option maxHeartbeats 4000000 in
/-- The two printed modules have the same bodies: on the TensorCore the one label's body, elsewhere none is run. -/
theorem same_bodies : Cert.Kernel.defs₀ (F := Bits) = Cert.KernelIdeal.defs₀ (F := Bits) := by
  funext p ℓ args
  match p with
  | .tc =>
    match ℓ, args with
    | ⟨0, _⟩, (t, s) => exact rfl
  | .scScalar _ => rfl
  | .scVector _ _ => rfl

set_option maxRecDepth 200000 in
set_option maxHeartbeats 4000000 in
/-- So they have the same table. -/
theorem same_table : Cert.Kernel.defs (F := Bits) = Cert.KernelIdeal.defs (F := Bits) :=
  congrArg (Pipeline.defs Cert.Kernel.pcfgs) same_bodies

/-- The kernel as printed: the run over any float values, read at the bit patterns. -/
theorem frame_kernel : Cert.quiescent_Kernel := fun m ρ _ => by
  rw [same_table]
  exact (θ_run Cert.KernelIdeal.defs _ _).mono (fun _ h => ⟨fun c => ⟨(h.1 c).1, (h.1 c).2.1, (h.1 c).2.2.1, (h.1 c).2.2.2.1⟩, h.2⟩)
    (Cert.Exchange.run_main (F := Bits) m ρ)

/-- The idealized kernel: the same run at the ideal values. -/
theorem frame_kernelIdeal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.Exchange.run_main (F := Ideal) m ρ)

/-- The reference has no semaphore, and leaves its arguments alone. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Device `c`'s result is block `c` of the reference's. -/
theorem value : Cert.algebraic_KernelIdeal_ReferenceIdeal := fun m ρ m' ρ' _ hargs =>
  ⟨Cert.ReferenceIdeal.Read.val_main_v10 (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c => ⟨(h.1 c).2.2.2.2.trans
        (Cert.Exchange.result_block m _ _ _ _ (fun d => (hargs d).1) c (hargs c).2.1 (hargs c).2.2.1 (hargs c).2.2.2),
        (h.1 c).1, (h.1 c).2.1, (h.1 c).2.2.1, (h.1 c).2.2.2.1⟩)
      (Cert.Exchange.run_main (F := Ideal) m ρ),
    (θ_run Cert.ReferenceIdeal.defs _ _).mono (fun _ h => ⟨(h 0).1.trans (Cert.ReferenceIdeal.Read.val_main_v10_eq ..), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
